-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_table_and_finite [hPre_tokens_in_table_and_finite : Cert.Pre_tokens_in_table_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_table_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_table_and_finite [hPre_tokens_in_table_and_finite : Cert.Pre_tokens_in_table_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_table_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_tokens_in_table_and_finite [hKernelIdeal : Cert.KernelIdeal.Facts] [hPre_tokens_in_table_and_finite : Cert.Pre_tokens_in_table_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_table_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_tokens_in_table_and_finite [hReferenceIdeal : Cert.ReferenceIdeal.Facts] [hPre_tokens_in_table_and_finite : Cert.Pre_tokens_in_table_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_table_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_tokens_in_table_and_finite [hKernelIdeal : Cert.KernelIdeal.Facts] [hReferenceIdeal : Cert.ReferenceIdeal.Facts] [hPre_tokens_in_table_and_finite : Cert.Pre_tokens_in_table_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_table_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_tokens_in_table_and_finite : Cert.Pre_tokens_in_table_and_finite.Facts),
    quiescent_Kernel (hKernel := hKernel)
    ∧ quiescent_KernelIdeal (hKernelIdeal := hKernelIdeal)
    ∧ quiescent_KernelIdeal_pre_tokens_in_table_and_finite (hKernelIdeal := hKernelIdeal) (hPre_tokens_in_table_and_finite := hPre_tokens_in_table_and_finite)
    ∧ quiescent_ReferenceIdeal (hReferenceIdeal := hReferenceIdeal)
    ∧ quiescent_ReferenceIdeal_pre_tokens_in_table_and_finite (hReferenceIdeal := hReferenceIdeal) (hPre_tokens_in_table_and_finite := hPre_tokens_in_table_and_finite)
    ∧ preserves_Kernel_KernelIdeal
    ∧ algebraic_KernelIdeal_ReferenceIdeal_pre_tokens_in_table_and_finite (hKernelIdeal := hKernelIdeal) (hReferenceIdeal := hReferenceIdeal) (hPre_tokens_in_table_and_finite := hPre_tokens_in_table_and_finite)
-- ==== Pre_tokens_in_table_and_finite.lean ====
abbrev S64x2048 : Shape := ⟨2, ![64, 2048]⟩
abbrev S64x40 : Shape := ⟨2, ![64, 40]⟩
abbrev S6x128 : Shape := ⟨2, ![6, 128]⟩
abbrev S2048x128 : Shape := ⟨2, ![2048, 128]⟩
abbrev S64 : Shape := ⟨1, ![64]⟩
abbrev S512x128 : Shape := ⟨2, ![512, 128]⟩
abbrev S512 : Shape := ⟨1, ![512]⟩
abbrev S512x64 : Shape := ⟨2, ![512, 64]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S64x40 : S_.BroadcastsInDim S64x40 (![] : Fin 0 → Fin S64x40.rank)
  reducesTo_S64x40_S_d0_1 : S64x40.ReducesTo [0, 1] S_
  bcast_S_S6x128 : S_.BroadcastsInDim S6x128 (![] : Fin 0 → Fin S6x128.rank)
  reducesTo_S6x128_S_d0_1 : S6x128.ReducesTo [0, 1] S_
  bcast_S_S2048x128 : S_.BroadcastsInDim S2048x128 (![] : Fin 0 → Fin S2048x128.rank)
  reducesTo_S2048x128_S_d0_1 : S2048x128.ReducesTo [0, 1] S_
  bcast_S_S64 : S_.BroadcastsInDim S64 (![] : Fin 0 → Fin S64.rank)
  reducesTo_S64_S_d0 : S64.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_

variable [Facts]

def fn_part3 {F : FTy → Type} [FloatOps F] (main_arg10 : FVec F S512 .f32) (main_v50 : IVec S_ 1) : IVec S_ 1 :=
  let main_v51 : FVec F S512 .f32 := Host.absf main_arg10
  let main_cst_19 : FVec F S_ .f32 := constant S_ .f32 0x7F800000#32
  let main_v52 : FVec F S512 .f32 := broadcastInDim S512 ![] bcast_S_S512 main_cst_19
  let main_v53 : IVec S512 1 := cmpf .olt main_v51 main_v52
  let main_c_20 : IVec S_ 1 := constantI S_ 1 1#1
  let main_v54 : IVec S_ 1 := (fun x v => Host.reduce IntOp.andi x v reducesTo_S512_S_d0 h_S_) main_v53 main_c_20
  let main_v55 : IVec S_ 1 := andi main_v50 main_v54
  main_v55

def fn_part2 {F : FTy → Type} [FloatOps F] (main_arg7 : FVec F S512 .f32) (main_arg8 : FVec F S512x64 .f32) (main_arg9 : FVec F S512 .f32) (main_arg10 : FVec F S512 .f32) (main_v30 : IVec S_ 1) (main_v33 : IVec S512x128 1) : IVec S_ 1 :=
  let main_c_12 : IVec S_ 1 := constantI S_ 1 1#1
  let main_v34 : IVec S_ 1 := (fun x v => Host.reduce IntOp.andi x v reducesTo_S512x128_S_d0_1 h_S_) main_v33 main_c_12
  let main_v35 : IVec S_ 1 := andi main_v30 main_v34
  let main_v36 : FVec F S512 .f32 := Host.absf main_arg7
  let main_cst_13 : FVec F S_ .f32 := constant S_ .f32 0x7F800000#32
  let main_v37 : FVec F S512 .f32 := broadcastInDim S512 ![] bcast_S_S512 main_cst_13
  let main_v38 : IVec S512 1 := cmpf .olt main_v36 main_v37
  let main_c_14 : IVec S_ 1 := constantI S_ 1 1#1
  let main_v39 : IVec S_ 1 := (fun x v => Host.reduce IntOp.andi x v reducesTo_S512_S_d0 h_S_) main_v38 main_c_14
  let main_v40 : IVec S_ 1 := andi main_v35 main_v39
  let main_v41 : FVec F S512x64 .f32 := Host.absf main_arg8
  let main_cst_15 : FVec F S_ .f32 := constant S_ .f32 0x7F800000#32
  let main_v42 : FVec F S512x64 .f32 := broadcastInDim S512x64 ![] bcast_S_S512x64 main_cst_15
  let main_v43 : IVec S512x64 1 := cmpf .olt main_v41 main_v42
  let main_c_16 : IVec S_ 1 := constantI S_ 1 1#1
  let main_v44 : IVec S_ 1 := (fun x v => Host.reduce IntOp.andi x v reducesTo_S512x64_S_d0_1 h_S_) main_v43 main_c_16
  let main_v45 : IVec S_ 1 := andi main_v40 main_v44
  let main_v46 : FVec F S512 .f32 := Host.absf main_arg9
  let main_cst_17 : FVec F S_ .f32 := constant S_ .f32 0x7F800000#32
  let main_v47 : FVec F S512 .f32 := broadcastInDim S512 ![] bcast_S_S512 main_cst_17
  let main_v48 : IVec S512 1 := cmpf .olt main_v46 main_v47
  let main_c_18 : IVec S_ 1 := constantI S_ 1 1#1
  let main_v49 : IVec S_ 1 := (fun x v => Host.reduce IntOp.andi x v reducesTo_S512_S_d0 h_S_) main_v48 main_c_18
  let main_v50 : IVec S_ 1 := andi main_v45 main_v49
  fn_part3 (F := F) main_arg10 main_v50

def fn_part1 {F : FTy → Type} [FloatOps F] (main_arg4 : FVec F S64x40 .f32) (main_arg5 : FVec F S64 .f32) (main_arg6 : FVec F S512x128 .f32) (main_arg7 : FVec F S512 .f32) (main_arg8 : FVec F S512x64 .f32) (main_arg9 : FVec F S512 .f32) (main_arg10 : FVec F S512 .f32) (main_v15 : IVec S_ 1) (main_v16 : FVec F S2048x128 .f32) : IVec S_ 1 :=
  let main_cst_5 : FVec F S_ .f32 := constant S_ .f32 0x7F800000#32
  let main_v17 : FVec F S2048x128 .f32 := broadcastInDim S2048x128 ![] bcast_S_S2048x128 main_cst_5
  let main_v18 : IVec S2048x128 1 := cmpf .olt main_v16 main_v17
  let main_c_6 : IVec S_ 1 := constantI S_ 1 1#1
  let main_v19 : IVec S_ 1 := (fun x v => Host.reduce IntOp.andi x v reducesTo_S2048x128_S_d0_1 h_S_) main_v18 main_c_6
  let main_v20 : IVec S_ 1 := andi main_v15 main_v19
  let main_v21 : FVec F S64x40 .f32 := Host.absf main_arg4
  let main_cst_7 : FVec F S_ .f32 := constant S_ .f32 0x7F800000#32
  let main_v22 : FVec F S64x40 .f32 := broadcastInDim S64x40 ![] bcast_S_S64x40 main_cst_7
  let main_v23 : IVec S64x40 1 := cmpf .olt main_v21 main_v22
  let main_c_8 : IVec S_ 1 := constantI S_ 1 1#1
  let main_v24 : IVec S_ 1 := (fun x v => Host.reduce IntOp.andi x v reducesTo_S64x40_S_d0_1 h_S_) main_v23 main_c_8
  let main_v25 : IVec S_ 1 := andi main_v20 main_v24
  let main_v26 : FVec F S64 .f32 := Host.absf main_arg5
  let main_cst_9 : FVec F S_ .f32 := constant S_ .f32 0x7F800000#32
  let main_v27 : FVec F S64 .f32 := broadcastInDim S64 ![] bcast_S_S64 main_cst_9
  let main_v28 : IVec S64 1 := cmpf .olt main_v26 main_v27
  let main_c_10 : IVec S_ 1 := constantI S_ 1 1#1
  let main_v29 : IVec S_ 1 := (fun x v => Host.reduce IntOp.andi x v reducesTo_S64_S_d0 h_S_) main_v28 main_c_10
  let main_v30 : IVec S_ 1 := andi main_v25 main_v29
  let main_v31 : FVec F S512x128 .f32 := Host.absf main_arg6
  let main_cst_11 : FVec F S_ .f32 := constant S_ .f32 0x7F800000#32
  let main_v32 : FVec F S512x128 .f32 := broadcastInDim S512x128 ![] bcast_S_S512x128 main_cst_11
  let main_v33 : IVec S512x128 1 := cmpf .olt main_v31 main_v32
  fn_part2 (F := F) main_arg7 main_arg8 main_arg9 main_arg10 main_v30 main_v33

def fn {F : FTy → Type} [FloatOps F] (main_arg0 : IVec S64x2048 32) (main_arg1 : FVec F S64x40 .f32) (main_arg2 : FVec F S6x128 .f32) (main_arg3 : FVec F S2048x128 .f32) (main_arg4 : FVec F S64x40 .f32) (main_arg5 : FVec F S64 .f32) (main_arg6 : FVec F S512x128 .f32) (main_arg7 : FVec F S512 .f32) (main_arg8 : FVec F S512x64 .f32) (main_arg9 : FVec F S512 .f32) (main_arg10 : FVec F S512 .f32) (main_arg11 : FVec F S512 .f32) : IVec S_ 1 :=
  let main_c : IVec S_ 32 := constantI S_ 32 0#32
  let main_v0 : IVec S64x2048 32 := broadcastInDim S64x2048 ![] bcast_S_S64x2048 main_c
  let main_v1 : IVec S64x2048 1 := cmpi .sge main_arg0 main_v0
  let main_c_0 : IVec S_ 32 := constantI S_ 32 6#32
  let main_v2 : IVec S64x2048 32 := broadcastInDim S64x2048 ![] bcast_S_S64x2048 main_c_0
  let main_v3 : IVec S64x2048 1 := cmpi .slt main_arg0 main_v2
  let main_v4 : IVec S64x2048 1 := andi main_v1 main_v3
  let main_c_1 : IVec S_ 1 := constantI S_ 1 1#1
  let main_v5 : IVec S_ 1 := (fun x v => Host.reduce IntOp.andi x v reducesTo_S64x2048_S_d0_1 h_S_) main_v4 main_c_1
  let main_v6 : FVec F S64x40 .f32 := Host.absf main_arg1
  let main_cst : FVec F S_ .f32 := constant S_ .f32 0x7F800000#32
  let main_v7 : FVec F S64x40 .f32 := broadcastInDim S64x40 ![] bcast_S_S64x40 main_cst
  let main_v8 : IVec S64x40 1 := cmpf .olt main_v6 main_v7
  let main_c_2 : IVec S_ 1 := constantI S_ 1 1#1
  let main_v9 : IVec S_ 1 := (fun x v => Host.reduce IntOp.andi x v reducesTo_S64x40_S_d0_1 h_S_) main_v8 main_c_2
  let main_v10 : IVec S_ 1 := andi main_v5 main_v9
  let main_v11 : FVec F S6x128 .f32 := Host.absf main_arg2
  let main_cst_3 : FVec F S_ .f32 := constant S_ .f32 0x7F800000#32
  let main_v12 : FVec F S6x128 .f32 := broadcastInDim S6x128 ![] bcast_S_S6x128 main_cst_3
  let main_v13 : IVec S6x128 1 := cmpf .olt main_v11 main_v12
  let main_c_4 : IVec S_ 1 := constantI S_ 1 1#1
  let main_v14 : IVec S_ 1 := (fun x v => Host.reduce IntOp.andi x v reducesTo_S6x128_S_d0_1 h_S_) main_v13 main_c_4
  let main_v15 : IVec S_ 1 := andi main_v10 main_v14
  let main_v16 : FVec F S2048x128 .f32 := Host.absf main_arg3
  fn_part1 (F := F) main_arg4 main_arg5 main_arg6 main_arg7 main_arg8 main_arg9 main_arg10 main_v15 main_v16
-- ==== Kernel.lean ====
abbrev S64x2048 : Shape := ⟨2, ![64, 2048]⟩
abbrev S64x40 : Shape := ⟨2, ![64, 40]⟩
abbrev S6x128 : Shape := ⟨2, ![6, 128]⟩
abbrev S2048x128 : Shape := ⟨2, ![2048, 128]⟩
abbrev S64 : Shape := ⟨1, ![64]⟩
abbrev S512x128 : Shape := ⟨2, ![512, 128]⟩
abbrev S512 : Shape := ⟨1, ![512]⟩
abbrev S512x64 : Shape := ⟨2, ![512, 64]⟩
abbrev S_ : Shape := ⟨0, ![]⟩
abbrev S8x128 : Shape := ⟨2, ![8, 128]⟩
abbrev S64x128 : Shape := ⟨2, ![64, 128]⟩
abbrev S3208x128 : Shape := ⟨2, ![3208, 128]⟩
abbrev S1x512 : Shape := ⟨2, ![1, 512]⟩
abbrev S4x512 : Shape := ⟨2, ![4, 512]⟩
abbrev S64x2048x512 : Shape := ⟨3, ![64, 2048, 512]⟩
abbrev S2x2048x512 : Shape := ⟨3, ![2, 2048, 512]⟩
abbrev S8x512 : Shape := ⟨2, ![8, 512]⟩
abbrev S64x512 : Shape := ⟨2, ![64, 512]⟩
abbrev S2048x512 : Shape := ⟨2, ![2048, 512]⟩
abbrev S2048x64 : Shape := ⟨2, ![2048, 64]⟩
abbrev S2x16x2048 : Shape := ⟨3, ![2, 16, 2048]⟩
abbrev S2x16x512 : Shape := ⟨3, ![2, 16, 512]⟩
abbrev S64x64 : Shape := ⟨2, ![64, 64]⟩
abbrev S1x64 : Shape := ⟨2, ![1, 64]⟩
abbrev S8x2048 : Shape := ⟨2, ![8, 2048]⟩
abbrev S64x8 : Shape := ⟨2, ![64, 8]⟩
abbrev S1x2048 : Shape := ⟨2, ![1, 2048]⟩
abbrev S64x1 : Shape := ⟨2, ![64, 1]⟩
abbrev S8 : Shape := ⟨1, ![8]⟩
abbrev S8x1 : Shape := ⟨2, ![8, 1]⟩
abbrev S1x1 : Shape := ⟨2, ![1, 1]⟩
abbrev S1x8x512 : Shape := ⟨3, ![1, 8, 512]⟩
abbrev S1x1x512 : Shape := ⟨3, ![1, 1, 512]⟩
abbrev S6x512 : Shape := ⟨2, ![6, 512]⟩
abbrev S1x6x512 : Shape := ⟨3, ![1, 6, 512]⟩
abbrev S1x8x2048 : Shape := ⟨3, ![1, 8, 2048]⟩
abbrev S1x1x2048 : Shape := ⟨3, ![1, 1, 2048]⟩
abbrev S1x16x2048 : Shape := ⟨3, ![1, 16, 2048]⟩
abbrev S16x2048 : Shape := ⟨2, ![16, 2048]⟩
abbrev S1x16x512 : Shape := ⟨3, ![1, 16, 512]⟩
abbrev S16x512 : Shape := ⟨2, ![16, 512]⟩
abbrev S2048 : Shape := ⟨1, ![2048]⟩
abbrev S2048x1 : Shape := ⟨2, ![2048, 1]⟩
abbrev S1x2048x512 : Shape := ⟨3, ![1, 2048, 512]⟩

abbrev nBuf : Space → Nat
  | .hbm => 35
  | .vmem => 13
  | .smem => 0
  | _ => 0

abbrev bufTy : (tb : Table) → Fin (tcTables nBuf tb) → BufTy
  | .hbm, ⟨0, _⟩ => ⟨S64x2048, .i32⟩
  | .hbm, ⟨1, _⟩ => ⟨S64x40, .f32⟩
  | .hbm, ⟨2, _⟩ => ⟨S6x128, .f32⟩
  | .hbm, ⟨3, _⟩ => ⟨S2048x128, .f32⟩
  | .hbm, ⟨4, _⟩ => ⟨S64x40, .f32⟩
  | .hbm, ⟨5, _⟩ => ⟨S64, .f32⟩
  | .hbm, ⟨6, _⟩ => ⟨S512x128, .f32⟩
  | .hbm, ⟨7, _⟩ => ⟨S512, .f32⟩
  | .hbm, ⟨8, _⟩ => ⟨S512x64, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S_, .i32⟩
  | .hbm, ⟨13, _⟩ => ⟨S_, .f32⟩
  | .hbm, ⟨14, _⟩ => ⟨S8x128, .f32⟩
  | .hbm, ⟨15, _⟩ => ⟨S_, .i32⟩
  | .hbm, ⟨16, _⟩ => ⟨S_, .f32⟩
  | .hbm, ⟨17, _⟩ => ⟨S64x128, .f32⟩
  | .hbm, ⟨18, _⟩ => ⟨S_, .i32⟩
  | .hbm, ⟨19, _⟩ => ⟨S_, .f32⟩
  | .hbm, ⟨20, _⟩ => ⟨S64x128, .f32⟩
  | .hbm, ⟨21, _⟩ => ⟨S_, .i32⟩
  | .hbm, ⟨22, _⟩ => ⟨S_, .f32⟩
  | .hbm, ⟨23, _⟩ => ⟨S512x128, .f32⟩
  | .hbm, ⟨24, _⟩ => ⟨S3208x128, .f32⟩
  | .hbm, ⟨25, _⟩ => ⟨S512, .f32⟩
  | .hbm, ⟨26, _⟩ => ⟨S_, .i32⟩
  | .hbm, ⟨27, _⟩ => ⟨S_, .f32⟩
  | .hbm, ⟨28, _⟩ => ⟨S512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S4x512, .f32⟩
  | .hbm, ⟨34, _⟩ => ⟨S64x2048x512, .f32⟩
  | .local _ .vmem, ⟨0, _⟩ => ⟨S64x2048, .i32⟩
  | .local _ .vmem, ⟨1, _⟩ => ⟨S3208x128, .f32⟩
  | .local _ .vmem, ⟨2, _⟩ => ⟨S4x512, .f32⟩
  | .local _ .vmem, ⟨3, _⟩ => ⟨S2x2048x512, .f32⟩
  | .local _ .vmem, ⟨4, _⟩ => ⟨S2x2048x512, .f32⟩
  | .local _ .vmem, ⟨5, _⟩ => ⟨S8x512, .f32⟩
  | .local _ .vmem, ⟨6, _⟩ => ⟨S64x512, .f32⟩
  | .local _ .vmem, ⟨7, _⟩ => ⟨S2048x512, .f32⟩
  | .local _ .vmem, ⟨8, _⟩ => ⟨S64x2048, .f32⟩
  | .local _ .vmem, ⟨9, _⟩ => ⟨S64x2048, .f32⟩
  | .local _ .vmem, ⟨10, _⟩ => ⟨S2048x64, .f32⟩
  | .local _ .vmem, ⟨11, _⟩ => ⟨S2x16x2048, .f32⟩
  | .local _ .vmem, ⟨12, _⟩ => ⟨S2x16x512, .f32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_c_1 : Ref sig .tc := ⟨.hbm, 18, rfl⟩
abbrev main_call2_v0 : Ref sig .tc := ⟨.hbm, 19, rfl⟩
abbrev main_v2 : Ref sig .tc := ⟨.hbm, 20, rfl⟩
abbrev main_c_2 : Ref sig .tc := ⟨.hbm, 21, rfl⟩
abbrev main_call3_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c_3 : Ref sig .tc := ⟨.hbm, 26, rfl⟩
abbrev main_call4_v0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![32], ![false]⟩

def k0_off1 (i : grid0.Coords) (c0_i32_2 : BitVec 32) : Fin 2 → Nat :=
  let arg0 : BitVec 32 := BitVec.ofNat 32 (i 0).val
  let c2_i32 : BitVec 32 := 2#32
  let v6 : BitVec 32 := Scalar.muli arg0 c2_i32
  let v7 : BitVec 32 := Scalar.addi v6 c0_i32_2
  let v8 : Index := Scalar.indexCast v7
  let c0_3 : Index := 0#32
  ![v8.toNat, 0]
def k0_off2 (i : grid0.Coords) (c0_i32_2 : BitVec 32) : Fin 2 → Nat :=
  let arg0 : BitVec 32 := BitVec.ofNat 32 (i 0).val
  let c2_i32 : BitVec 32 := 2#32
  let v6 : BitVec 32 := Scalar.muli arg0 c2_i32
  let v7 : BitVec 32 := Scalar.addi v6 c0_i32_2
  let v29 : Index := Scalar.indexCast v7
  let c0_13 : Index := 0#32
  ![v29.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x2048 : Shape := ⟨2, ![64, 2048]⟩
abbrev S64x40 : Shape := ⟨2, ![64, 40]⟩
abbrev S6x128 : Shape := ⟨2, ![6, 128]⟩
abbrev S2048x128 : Shape := ⟨2, ![2048, 128]⟩
abbrev S64 : Shape := ⟨1, ![64]⟩
abbrev S512x128 : Shape := ⟨2, ![512, 128]⟩
abbrev S512 : Shape := ⟨1, ![512]⟩
abbrev S512x64 : Shape := ⟨2, ![512, 64]⟩
abbrev S_ : Shape := ⟨0, ![]⟩
abbrev S64x2048x1 : Shape := ⟨3, ![64, 2048, 1]⟩
abbrev S1 : Shape := ⟨1, ![1]⟩
abbrev S1x1x1 : Shape := ⟨3, ![1, 1, 1]⟩
abbrev S64x2048x128 : Shape := ⟨3, ![64, 2048, 128]⟩
abbrev S1x2048x128 : Shape := ⟨3, ![1, 2048, 128]⟩
abbrev S64x2048x512 : Shape := ⟨3, ![64, 2048, 512]⟩
abbrev S1x1x512 : Shape := ⟨3, ![1, 1, 512]⟩
abbrev S40x64 : Shape := ⟨2, ![40, 64]⟩
abbrev S64x64 : Shape := ⟨2, ![64, 64]⟩
abbrev S1x64 : Shape := ⟨2, ![1, 64]⟩
abbrev S64x512 : Shape := ⟨2, ![64, 512]⟩
abbrev S1x512 : Shape := ⟨2, ![1, 512]⟩
abbrev S64x1x512 : Shape := ⟨3, ![64, 1, 512]⟩

abbrev nBuf : Space → Nat
  | .hbm => 99
  | .vmem => 0
  | .smem => 0
  | _ => 0

abbrev bufTy : (tb : Table) → Fin (tcTables nBuf tb) → BufTy
  | .hbm, ⟨0, _⟩ => ⟨S64x2048, .i32⟩
  | .hbm, ⟨1, _⟩ => ⟨S64x40, .f32⟩
  | .hbm, ⟨2, _⟩ => ⟨S6x128, .f32⟩
  | .hbm, ⟨3, _⟩ => ⟨S2048x128, .f32⟩
  | .hbm, ⟨4, _⟩ => ⟨S64x40, .f32⟩
  | .hbm, ⟨5, _⟩ => ⟨S64, .f32⟩
  | .hbm, ⟨6, _⟩ => ⟨S512x128, .f32⟩
  | .hbm, ⟨7, _⟩ => ⟨S512, .f32⟩
  | .hbm, ⟨8, _⟩ => ⟨S512x64, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S_, .i32⟩
  | .hbm, ⟨13, _⟩ => ⟨S64x2048, .i32⟩
  | .hbm, ⟨14, _⟩ => ⟨S64x2048, .i1⟩
  | .hbm, ⟨15, _⟩ => ⟨S_, .i32⟩
  | .hbm, ⟨16, _⟩ => ⟨S64x2048, .i32⟩
  | .hbm, ⟨17, _⟩ => ⟨S64x2048, .i32⟩
  | .hbm, ⟨18, _⟩ => ⟨S64x2048, .i32⟩
  | .hbm, ⟨19, _⟩ => ⟨S64x2048x1, .i32⟩
  | .hbm, ⟨20, _⟩ => ⟨S1, .i32⟩
  | .hbm, ⟨21, _⟩ => ⟨S_, .i32⟩
  | .hbm, ⟨22, _⟩ => ⟨S64x2048x1, .i32⟩
  | .hbm, ⟨23, _⟩ => ⟨S64x2048x1, .i1⟩
  | .hbm, ⟨24, _⟩ => ⟨S1x1x1, .i32⟩
  | .hbm, ⟨25, _⟩ => ⟨S64x2048x1, .i32⟩
  | .hbm, ⟨26, _⟩ => ⟨S64x2048x1, .i1⟩
  | .hbm, ⟨27, _⟩ => ⟨S64x2048x1, .i1⟩
  | .hbm, ⟨28, _⟩ => ⟨S_, .i1⟩
  | .hbm, ⟨29, _⟩ => ⟨S64x2048, .i1⟩
  | .hbm, ⟨30, _⟩ => ⟨S64x2048x128, .f32⟩
  | .hbm, ⟨31, _⟩ => ⟨S64x2048x128, .i1⟩
  | .hbm, ⟨32, _⟩ => ⟨S_, .f32⟩
  | .hbm, ⟨33, _⟩ => ⟨S64x2048x128, .f32⟩
  | .hbm, ⟨34, _⟩ => ⟨S64x2048x128, .f32⟩
  | .hbm, ⟨35, _⟩ => ⟨S1x2048x128, .f32⟩
  | .hbm, ⟨36, _⟩ => ⟨S64x2048x128, .f32⟩
  | .hbm, ⟨37, _⟩ => ⟨S64x2048x128, .f32⟩
  | .hbm, ⟨38, _⟩ => ⟨S64x2048x512, .f32⟩
  | .hbm, ⟨39, _⟩ => ⟨S1x1x512, .f32⟩
  | .hbm, ⟨40, _⟩ => ⟨S64x2048x512, .f32⟩
  | .hbm, ⟨41, _⟩ => ⟨S64x2048x512, .f32⟩
  | .hbm, ⟨42, _⟩ => ⟨S40x64, .f32⟩
  | .hbm, ⟨43, _⟩ => ⟨S64x64, .f32⟩
  | .hbm, ⟨44, _⟩ => ⟨S1x64, .f32⟩
  | .hbm, ⟨45, _⟩ => ⟨S64x64, .f32⟩
  | .hbm, ⟨46, _⟩ => ⟨S64x64, .f32⟩
  | .hbm, ⟨47, _⟩ => ⟨S64x512, .f32⟩
  | .hbm, ⟨48, _⟩ => ⟨S64x512, .f32⟩
  | .hbm, ⟨49, _⟩ => ⟨S1x512, .f32⟩
  | .hbm, ⟨50, _⟩ => ⟨S64x512, .f32⟩
  | .hbm, ⟨51, _⟩ => ⟨S64x512, .f32⟩
  | .hbm, ⟨52, _⟩ => ⟨S64x1x512, .f32⟩
  | .hbm, ⟨53, _⟩ => ⟨S64x2048x512, .f32⟩
  | .hbm, ⟨54, _⟩ => ⟨S64x2048x512, .f32⟩
  | .hbm, ⟨55, _⟩ => ⟨S_, .f32⟩
  | .hbm, ⟨56, _⟩ => ⟨S64x2048, .f32⟩
  | .hbm, ⟨57, _⟩ => ⟨S64x2048x1, .f32⟩
  | .hbm, ⟨58, _⟩ => ⟨S_, .f32⟩
  | .hbm, ⟨59, _⟩ => ⟨S64x2048x1, .f32⟩
  | .hbm, ⟨60, _⟩ => ⟨S64x2048x1, .f32⟩
  | .hbm, ⟨61, _⟩ => ⟨S_, .i32⟩
  | .hbm, ⟨62, _⟩ => ⟨S_, .f32⟩
  | .hbm, ⟨63, _⟩ => ⟨S64x2048, .f32⟩
  | .hbm, ⟨64, _⟩ => ⟨S64x2048x1, .f32⟩
  | .hbm, ⟨65, _⟩ => ⟨S_, .f32⟩
  | .hbm, ⟨66, _⟩ => ⟨S64x2048x1, .f32⟩
  | .hbm, ⟨67, _⟩ => ⟨S64x2048x1, .f32⟩
  | .hbm, ⟨68, _⟩ => ⟨S64x2048x512, .f32⟩
  | .hbm, ⟨69, _⟩ => ⟨S64x2048x512, .f32⟩
  | .hbm, ⟨70, _⟩ => ⟨S64x2048x512, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S64x2048, .f32⟩
  | .hbm, ⟨76, _⟩ => ⟨S64x2048x1, .f32⟩
  | .hbm, ⟨77, _⟩ => ⟨S64x2048x1, .f32⟩
  | .hbm, ⟨78, _⟩ => ⟨S64x2048x1, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S64x2048x1, .f32⟩
  | .hbm, ⟨84, _⟩ => ⟨S64x2048x1, .f32⟩
  | .hbm, ⟨85, _⟩ => ⟨S64x2048x512, .f32⟩
  | .hbm, ⟨86, _⟩ => ⟨S64x2048x512, .f32⟩
  | .hbm, ⟨87, _⟩ => ⟨S_, .f32⟩
  | .hbm, ⟨88, _⟩ => ⟨S64x2048x1, .f32⟩
  | .hbm, ⟨89, _⟩ => ⟨S64x2048x1, .f32⟩
  | .hbm, ⟨90, _⟩ => ⟨S64x2048x1, .f32⟩
  | .hbm, ⟨91, _⟩ => ⟨S64x2048x512, .f32⟩
  | .hbm, ⟨92, _⟩ => ⟨S64x2048x512, .f32⟩
  | .hbm, ⟨93, _⟩ => ⟨S1x1x512, .f32⟩
  | .hbm, ⟨94, _⟩ => ⟨S64x2048x512, .f32⟩
  | .hbm, ⟨95, _⟩ => ⟨S64x2048x512, .f32⟩
  | .hbm, ⟨96, _⟩ => ⟨S1x1x512, .f32⟩
  | .hbm, ⟨97, _⟩ => ⟨S64x2048x512, .f32⟩
  | .hbm, ⟨98, _⟩ => ⟨S64x2048x512, .f32⟩
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst : Ref sig .tc := ⟨.hbm, 55, rfl⟩
abbrev main_v21 : Ref sig .tc := ⟨.hbm, 56, rfl⟩
abbrev main_v22 : Ref sig .tc := ⟨.hbm, 57, rfl⟩
abbrev main_cst_0 : Ref sig .tc := ⟨.hbm, 58, rfl⟩
abbrev main_v23 : Ref sig .tc := ⟨.hbm, 59, rfl⟩
abbrev main_v24 : Ref sig .tc := ⟨.hbm, 60, rfl⟩
abbrev main_c : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_cst_2 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_cst_3 : Ref sig .tc := ⟨.hbm, 79, rfl⟩
abbrev main_call1_v13 : Ref sig .tc := ⟨.hbm, 80, rfl⟩
abbrev main_call1_cst_4 : Ref sig .tc := ⟨.hbm, 81, rfl⟩
abbrev main_call1_call0_v0 : Ref sig .tc := ⟨.hbm, 82, rfl⟩
abbrev main_call1_call0_v1 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_cst_1 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩

abbrev nD : Nat := 1
abbrev τ : Topo := Topo.v7x

variable {F : FTy → Type} [FloatOps F]
-- ==== Proof.RefRead.lean ====
module

public import proofs.«01_k».proof.Proof.Gen.ReferenceIdeal.Read

@[expose] public section
-- ==== Proof.Numbers.lean ====
module

public import Idealize.ShloMosaic.Lib.Pointwise

@[expose] public section

noncomputable section

open Idealize.ShloMosaic

/-! # The layer's real numbers

The operands as families of real numbers, what both programs compute of them, and the two ways of writing the variance. -/

namespace Cert.Layer

/-- The operands, as a table of tokens and families of real numbers. -/
structure Data where
  /-- tokens -/
  tok : Fin 64 → Fin 2048 → Fin 6
  /-- token table -/
  T : Fin 6 → Fin 128 → ℝ
  /-- position rows -/
  P : Fin 2048 → Fin 128 → ℝ
  /-- projection of the token rows -/
  W : Fin 512 → Fin 128 → ℝ
  /-- expression data -/
  E : Fin 64 → Fin 40 → ℝ
  /-- first expression weights -/
  EW : Fin 64 → Fin 40 → ℝ
  /-- first expression bias -/
  EB : Fin 64 → ℝ
  /-- second expression weights -/
  EP : Fin 512 → Fin 64 → ℝ
  /-- bias of the token projection -/
  b7 : Fin 512 → ℝ
  /-- bias of the expression projection -/
  b9 : Fin 512 → ℝ
  /-- scale -/
  g : Fin 512 → ℝ

/-- The number the variance is moved by. -/
def eps : ℝ := (Ideal.ofBits .f32 0x3727C5AC#32).toReal

theorem ofBits_eps : Ideal.ofBits .f32 0x3727C5AC#32 = ((eps : ℝ) : EReal) ∧ 0 < eps := by
  have h : Ideal.ofBits .f32 0x3727C5AC#32 = (((10995116 : ℝ) * 2 ^ (-40 : ℤ) : ℝ) : EReal) := by
    simp [Ideal.ofBits, Ideal.ieee, -EReal.coe_mul]
  refine ⟨?_, ?_⟩
  · unfold eps; rw [h, EReal.toReal_coe]
  · unfold eps; rw [h, EReal.toReal_coe]; positivity

theorem ofBits_zero : Ideal.ofBits .f32 0x00000000#32 = 0 := by
  simp [Ideal.ofBits, Ideal.ieee]

theorem ofBits_512 : Ideal.ofBits .f32 0x44000000#32 = ((512 : ℝ) : EReal) := by
  simp [Ideal.ofBits, Ideal.ieee, -EReal.coe_mul]; norm_num

theorem ofBits_inv512 : Ideal.ofBits .f32 0x3B000000#32 = ((1 / 512 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- A sum of real numbers is a real number. -/
theorem sum_real {n : ℕ} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

/-- A product of real numbers summed is a real number. -/
theorem sum_mul_real {n : ℕ} (f g : Fin n → ℝ) : (∑ i, ((f i : ℝ) : EReal) * ((g i : ℝ) : EReal)) = ((∑ i, f i * g i : ℝ) : EReal) := by
  rw [← sum_real]
  exact Finset.sum_congr rfl fun i _ => (EReal.coe_mul _ _).symm

namespace Data

variable (d : Data)

/-- Projected token table. -/
def tp (t : Fin 6) (h : Fin 512) : ℝ := ∑ k, d.T t k * d.W h k
/-- Projected position rows. -/
def pp (s : Fin 2048) (h : Fin 512) : ℝ := ∑ k, d.P s k * d.W h k
/-- First expression layer. -/
def ee (b : Fin 64) (k : Fin 64) : ℝ := (∑ l, d.E b l * d.EW k l) + d.EB k
/-- Projected expression rows, biases included. -/
def eh (b : Fin 64) (h : Fin 512) : ℝ := (∑ k, d.ee b k * d.EP h k) + (d.b9 h + d.b7 h)
/-- The rows to be normalized. -/
def x (b : Fin 64) (s : Fin 2048) (h : Fin 512) : ℝ := d.tp (d.tok b s) h + d.eh b h + d.pp s h
/-- Means. -/
def mean (b : Fin 64) (s : Fin 2048) : ℝ := (∑ h, d.x b s h) / 512
/-- Variances. -/
def var (b : Fin 64) (s : Fin 2048) : ℝ := (∑ h, (d.x b s h - d.mean b s) * (d.x b s h - d.mean b s)) / 512
/-- The normalized and scaled rows. -/
def out (b : Fin 64) (s : Fin 2048) (h : Fin 512) : ℝ :=
  (d.x b s h - d.mean b s) / Real.sqrt (d.var b s + eps) * d.g h

theorem var_nonneg (b : Fin 64) (s : Fin 2048) : 0 ≤ d.var b s :=
  div_nonneg (Finset.sum_nonneg fun h _ => mul_self_nonneg _) (by norm_num)

theorem var_eps_pos (b : Fin 64) (s : Fin 2048) : 0 < d.var b s + eps :=
  add_pos_of_nonneg_of_pos (d.var_nonneg b s) ofBits_eps.2

/-- The mean is the sum of the parts' means. -/
theorem mean_parts (b : Fin 64) (s : Fin 2048) :
    (∑ h, d.tp (d.tok b s) h) * (1 / 512) + (∑ h, d.eh b h) * (1 / 512) + (∑ h, d.pp s h) * (1 / 512) = d.mean b s := by
  unfold mean x
  rw [Finset.sum_add_distrib, Finset.sum_add_distrib]
  ring

/-- The variance is the mean of the squares, part by part, less the square of the mean. -/
theorem var_parts (b : Fin 64) (s : Fin 2048) :
    ((∑ h, d.tp (d.tok b s) h * d.tp (d.tok b s) h) + 2 * (∑ h, d.tp (d.tok b s) h * d.pp s h)
      + 2 * (∑ h, d.eh b h * d.tp (d.tok b s) h) + (∑ h, d.eh b h * d.eh b h) + (∑ h, d.pp s h * d.pp s h)
      + 2 * ∑ h, d.eh b h * d.pp s h) * (1 / 512) - d.mean b s * d.mean b s = d.var b s := by
  have hx : (∑ h, d.x b s h) = 512 * d.mean b s := by unfold mean; ring
  have hv : (∑ h, (d.x b s h - d.mean b s) * (d.x b s h - d.mean b s))
      = (∑ h, d.x b s h * d.x b s h) - 512 * (d.mean b s * d.mean b s) := by
    have e : ∀ h, (d.x b s h - d.mean b s) * (d.x b s h - d.mean b s)
        = d.x b s h * d.x b s h - 2 * d.mean b s * d.x b s h + d.mean b s * d.mean b s := fun h => by ring
    simp only [e]
    rw [Finset.sum_add_distrib, Finset.sum_sub_distrib, ← Finset.mul_sum, hx, Finset.sum_const, Finset.card_univ, Fintype.card_fin]
    simp only [nsmul_eq_mul]
    push_cast
    ring
  have hs : (∑ h, d.x b s h * d.x b s h) = (∑ h, d.tp (d.tok b s) h * d.tp (d.tok b s) h) + 2 * (∑ h, d.tp (d.tok b s) h * d.pp s h)
      + 2 * (∑ h, d.eh b h * d.tp (d.tok b s) h) + (∑ h, d.eh b h * d.eh b h) + (∑ h, d.pp s h * d.pp s h)
      + 2 * ∑ h, d.eh b h * d.pp s h := by
    simp only [Finset.mul_sum, ← Finset.sum_add_distrib]
    exact Finset.sum_congr rfl fun h _ => by unfold x; ring
  unfold var
  rw [hv, hs]
  ring

end Data

/-- The operands hold the numbers of `d`. -/
structure Fits (d : Data) (x0 : Vec Ideal ⟨2, ![64, 2048]⟩ .i32) (x1 : FVec Ideal ⟨2, ![64, 40]⟩ .f32)
    (x2 : FVec Ideal ⟨2, ![6, 128]⟩ .f32) (x3 : FVec Ideal ⟨2, ![2048, 128]⟩ .f32) (x4 : FVec Ideal ⟨2, ![64, 40]⟩ .f32)
    (x5 : FVec Ideal ⟨1, ![64]⟩ .f32) (x6 : FVec Ideal ⟨2, ![512, 128]⟩ .f32) (x7 : FVec Ideal ⟨1, ![512]⟩ .f32)
    (x8 : FVec Ideal ⟨2, ![512, 64]⟩ .f32) (x9 : FVec Ideal ⟨1, ![512]⟩ .f32) (x10 : FVec Ideal ⟨1, ![512]⟩ .f32) : Prop where
  /-- tokens -/
  tok : ∀ b s, x0 (ix2 b s) = BitVec.ofNat 32 (d.tok b s).val
  /-- expression data -/
  E : ∀ i k, x1 (ix2 i k) = ((d.E i k : ℝ) : EReal)
  /-- token table -/
  T : ∀ i k, x2 (ix2 i k) = ((d.T i k : ℝ) : EReal)
  /-- position rows -/
  P : ∀ i k, x3 (ix2 i k) = ((d.P i k : ℝ) : EReal)
  /-- first expression weights -/
  EW : ∀ i k, x4 (ix2 i k) = ((d.EW i k : ℝ) : EReal)
  /-- first expression bias -/
  EB : ∀ k, x5 (ix1 k) = ((d.EB k : ℝ) : EReal)
  /-- projection of the token rows -/
  W : ∀ i k, x6 (ix2 i k) = ((d.W i k : ℝ) : EReal)
  /-- bias of the token projection -/
  b7 : ∀ k, x7 (ix1 k) = ((d.b7 k : ℝ) : EReal)
  /-- second expression weights -/
  EP : ∀ i k, x8 (ix2 i k) = ((d.EP i k : ℝ) : EReal)
  /-- bias of the expression projection -/
  b9 : ∀ k, x9 (ix1 k) = ((d.b9 k : ℝ) : EReal)
  /-- scale -/
  g : ∀ k, x10 (ix1 k) = ((d.g k : ℝ) : EReal)

end Cert.Layer
-- ==== Proof.Pre.lean ====
module

public import proofs.«01_k».proof.Pre_tokens_in_table_and_finite
public import proofs.«01_k».proof.Proof.Numbers
public import Idealize.ShloMosaic.Lib.Pointwise
public import Idealize.ShloMosaic.Lib.ReduceAll
public import Idealize.ShloMosaic.Lib.WordCmp

@[expose] public section

set_option maxRecDepth 16384

noncomputable section

open Idealize.ShloMosaic

/-! # What the precondition says: tokens inside the table, finite operands -/

namespace Cert.Layer.Given

open Cert.Pre_tokens_in_table_and_finite Cert.Layer

/-- An extended real below infinity in absolute value is a real number. -/
theorem real_of_abs {x : EReal} (h : Ideal.cmp .olt (max x (-x)) (Ideal.ofBits .f32 0x7F800000#32) = 1#1) :
    x = ((x.toReal : ℝ) : EReal) := by
  have ht : Ideal.ofBits .f32 0x7F800000#32 = ⊤ := by simp [Ideal.ofBits, Ideal.ieee]
  rw [ht] at h
  induction x using EReal.rec with
  | bot => exact absurd h (by simp [Ideal.cmp])
  | top => exact absurd h (by simp [Ideal.cmp])
  | coe r => rfl

/-- All entries compare below infinity: all entries are real numbers. -/
theorem real_of_all {s : Shape} {axes : List (Fin s.rank)} (x : FVec Ideal s .f32) (hb : S_.BroadcastsInDim s ![])
    (h : s.ReducesTo axes S_) (hu : 0 < S_.numel)
    (e : Host.reduce IntOp.andi (cmpf .olt (Host.absf x) (broadcastInDim s ![] hb (constant S_ .f32 0x7F800000#32)))
      (constantI S_ 1 1#1) h hu ix0 = 1#1) (i : s.Idx) : x i = (((x i).toReal : ℝ) : EReal) := by
  haveI : Subsingleton S_.Idx := ⟨fun a b => funext fun k => k.elim0⟩
  exact real_of_abs (Host.reduce_andi_all _ _ _ _ _ e i)

variable [Facts]

/-- Under the precondition the operands hold real numbers, and the tokens are entries of the table. -/
theorem fits {x0 : IVec S64x2048 32} {x1 : FVec Ideal S64x40 .f32} {x2 : FVec Ideal S6x128 .f32}
    {x3 : FVec Ideal S2048x128 .f32} {x4 : FVec Ideal S64x40 .f32} {x5 : FVec Ideal S64 .f32} {x6 : FVec Ideal S512x128 .f32}
    {x7 : FVec Ideal S512 .f32} {x8 : FVec Ideal S512x64 .f32} {x9 x10 x11 : FVec Ideal S512 .f32}
    (e : fn (F := Ideal) x0 x1 x2 x3 x4 x5 x6 x7 x8 x9 x10 x11 ix0 = 1#1) :
    ∃ d : Data, Fits d x0 x1 x2 x3 x4 x5 x6 x7 x8 x9 x10 := by
  haveI : Subsingleton S_.Idx := ⟨fun a b => funext fun k => k.elim0⟩
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  have ht : ∀ b s, (x0 (ix2 b s)).toNat < 6 := fun b s => by
    have h : IntOp.andi (IntOp.cmpi .sge (x0 (ix2 b s)) 0#32) (IntOp.cmpi .slt (x0 (ix2 b s)) 6#32) = 1#1 :=
      Host.reduce_andi_all _ _ _ _ _ h0 (ix2 b s)
    word_cmp at h
  refine ⟨{
    tok := fun b s => ⟨(x0 (ix2 b s)).toNat, ht b s⟩
    T := fun i k => (x2 (ix2 i k)).toReal
    P := fun i k => (x3 (ix2 i k)).toReal
    W := fun i k => (x6 (ix2 i k)).toReal
    E := fun i k => (x1 (ix2 i k)).toReal
    EW := fun i k => (x4 (ix2 i k)).toReal
    EB := fun k => (x5 (ix1 k)).toReal
    EP := fun i k => (x8 (ix2 i k)).toReal
    b7 := fun k => (x7 (ix1 k)).toReal
    b9 := fun k => (x9 (ix1 k)).toReal
    g := fun k => (x10 (ix1 k)).toReal }, {
    tok := fun b s => by simp
    E := fun i k => real_of_all _ _ _ _ h1 _
    T := fun i k => real_of_all _ _ _ _ h2 _
    P := fun i k => real_of_all _ _ _ _ h3 _
    EW := fun i k => real_of_all _ _ _ _ h4 _
    EB := fun k => real_of_all _ _ _ _ h5 _
    W := fun i k => real_of_all _ _ _ _ h6 _
    b7 := fun k => real_of_all _ _ _ _ h7 _
    EP := fun i k => real_of_all _ _ _ _ h8 _
    b9 := fun k => real_of_all _ _ _ _ h9 _
    g := fun k => real_of_all _ _ _ _ h10 _ }⟩

end Cert.Layer.Given
-- ==== Proof.Bands.lean ====
module

public import proofs.«01_k».proof.Proof.Gen.KernelIdeal.Value
public import Idealize.ShloMosaic.Lib.WritesUnit
public import Idealize.ShloMosaic.Lib.Pointwise

@[expose] public section

set_option maxRecDepth 16384

noncomputable section

open Idealize.ShloMosaic Idealize.ShloMosaic.TcCoe Idealize.SL.Sem

/-! # Stores of row bands into a stack of matrices, and loads of single rows -/

namespace Cert.KernelIdeal.Bands

open Cert.KernelIdeal Cert.KernelIdeal.Gen

section Band

variable {sig : RefSig} {κ : Kind} {sp : Space} {e : EltTy} {Val : EltTy → Type} {K R W : ℕ}

/-- After a store of rows `r` to `r + n` of matrix `k`, an entry of those rows reads what was stored, any other entry
reads what was there before. -/
theorem read_band (v : View sig κ sp ⟨3, ![K, R, W]⟩ e) (f : v.ty.Contents Val) (k r n : ℕ)
    (inb : ∀ a, (![k, r, 0] : Fin 3 → ℕ) a + (![1, n, W] : Fin 3 → ℕ) a ≤ (⟨3, ![K, R, W]⟩ : Shape).size a)
    (w : (⟨3, ![1, n, W]⟩ : Shape).Idx → Val e) (L : List (View.Piece Val ⟨3, ![K, R, W]⟩ e))
    (a : Fin K) (b : Fin R) (c : Fin W) :
    v.read Val (v.writes Val f
        ((⟨Rect.unit (s := ⟨3, ![K, R, W]⟩) ![k, r, 0] ![1, n, W] inb, w⟩ : View.Piece Val ⟨3, ![K, R, W]⟩ e) :: L))
        (ix3 a b c)
      = if h : a.val = k ∧ r ≤ b.val ∧ b.val < r + n then w (ix3 (0 : Fin 1) ⟨b.val - r, by omega⟩ c)
        else v.read Val (v.writes Val f L) (ix3 a b c) := by
  by_cases h : a.val = k ∧ r ≤ b.val ∧ b.val < r + n
  · rw [dif_pos h]
    refine View.read_writes_cons_unit_of_mem v f inb w L (ix3 a b c) (ix3 (0 : Fin 1) ⟨b.val - r, by omega⟩ c) rfl ?_
    intro ax
    match ax with
    | ⟨0, _⟩ => show a.val = k + 0; omega
    | ⟨1, _⟩ => show b.val = r + (b.val - r); omega
    | ⟨2, _⟩ => show c.val = 0 + c.val; omega
  · rw [dif_neg h]
    by_cases hk : a.val = k
    · exact View.read_writes_cons_unit_of_not_mem v f inb w L (ix3 a b c) rfl (1 : Fin 3)
        (by show b.val < r ∨ r + n ≤ b.val; omega)
    · exact View.read_writes_cons_unit_of_not_mem v f inb w L (ix3 a b c) rfl (0 : Fin 3)
        (by show a.val < k ∨ k + 1 ≤ a.val; omega)

/-- The first matrix of a stack, loaded, reads the stack at matrix 0. -/
theorem readAt_mat (v : View sig κ sp ⟨3, ![K, R, W]⟩ e) (f : v.ty.Contents Val) (k : Fin K)
    (inb : ∀ a, (![k.val, 0, 0] : Fin 3 → ℕ) a + (![1, R, W] : Fin 3 → ℕ) a ≤ (⟨3, ![K, R, W]⟩ : Shape).size a)
    (x : Fin 1) (b : Fin R) (c : Fin W) :
    View.readAt Val v (Rect.unit (s := ⟨3, ![K, R, W]⟩) ![k.val, 0, 0] ![1, R, W] inb).toLoadRect f (ix3 x b c)
      = v.read Val f (ix3 k b c) := by
  rw [View.readAt_eq_ld]
  show v.read Val f _ = _
  congr 1
  funext ax
  apply Fin.ext
  match ax with
  | ⟨0, _⟩ => show k.val + 1 * x.val = k.val; omega
  | ⟨1, _⟩ => show 0 + 1 * b.val = b.val; omega
  | ⟨2, _⟩ => show 0 + 1 * c.val = c.val; omega

end Band

section Row

variable {sig : RefSig} {κ : Kind} {sp : Space} {e : EltTy} {Val : EltTy → Type} {R W : ℕ}

/-- A block of whole rows, loaded from row `r` on, reads the matrix `r` rows further down. -/
theorem readAt_rows (v : View sig κ sp ⟨2, ![R, W]⟩ e) (f : v.ty.Contents Val) (off : Fin 2 → ℕ) (r n w : ℕ)
    (hoff : off = ![r, 0])
    (inb : ∀ a, off a + (![n, w] : Fin 2 → ℕ) a ≤ (⟨2, ![R, W]⟩ : Shape).size a)
    (x : Fin n) (c : Fin w) (hr : r + x.val < R) (hc : c.val < W) :
    View.readAt Val v (Rect.unit (s := ⟨2, ![R, W]⟩) off ![n, w] inb).toLoadRect f (ix2 x c)
      = v.read Val f (ix2 ⟨r + x.val, hr⟩ ⟨c.val, hc⟩) := by
  subst hoff
  rw [View.readAt_eq_ld]
  show v.read Val f _ = _
  congr 1
  funext ax
  apply Fin.ext
  match ax with
  | ⟨0, _⟩ => show r + 1 * x.val = r + x.val; omega
  | ⟨1, _⟩ => show 0 + 1 * c.val = c.val; omega

/-- A store of a whole matrix leaves that matrix. -/
theorem read_whole (v : View sig κ sp ⟨2, ![R, W]⟩ e) (f : v.ty.Contents Val)
    (inb : ∀ a, (![0, 0] : Fin 2 → ℕ) a + (![R, W] : Fin 2 → ℕ) a ≤ (⟨2, ![R, W]⟩ : Shape).size a)
    (w : (⟨2, ![R, W]⟩ : Shape).Idx → Val e) (L : List (View.Piece Val ⟨2, ![R, W]⟩ e)) :
    v.read Val (v.writes Val f
        ((⟨Rect.unit (s := ⟨2, ![R, W]⟩) ![0, 0] ![R, W] inb, w⟩ : View.Piece Val ⟨2, ![R, W]⟩ e) :: L)) = w := by
  funext j
  rw [eq_ix2 j]
  refine View.read_writes_cons_unit_of_mem v f inb w L _ (ix2 (j 0) (j 1)) rfl ?_
  intro ax
  match ax with
  | ⟨0, _⟩ => show (j 0).val = 0 + (j 0).val; omega
  | ⟨1, _⟩ => show (j 1).val = 0 + (j 1).val; omega

/-- A load of a whole matrix reads that matrix. -/
theorem readAt_whole (v : View sig κ sp ⟨2, ![R, W]⟩ e) (f : v.ty.Contents Val)
    (inb : ∀ a, (![0, 0] : Fin 2 → ℕ) a + (![R, W] : Fin 2 → ℕ) a ≤ (⟨2, ![R, W]⟩ : Shape).size a) :
    View.readAt Val v (Rect.unit (s := ⟨2, ![R, W]⟩) ![0, 0] ![R, W] inb).toLoadRect f = v.read Val f := by
  funext j
  rw [eq_ix2 j]
  have h := readAt_rows v f ![0, 0] 0 R W rfl inb (j 0) (j 1) (by have : (j 0).val < R := (j 0).isLt; omega) (j 1).isLt
  refine h.trans ?_
  congr 1
  funext ax
  apply Fin.ext
  match ax with
  | ⟨0, _⟩ => show 0 + (j 0).val = (j 0).val; omega
  | ⟨1, _⟩ => rfl

end Row

end Cert.KernelIdeal.Bands
-- ==== Proof.Step.lean ====
module

public import proofs.«01_k».proof.Proof.Bands

@[expose] public section

set_option maxRecDepth 16384

noncomputable section

open Idealize.ShloMosaic Idealize.ShloMosaic.TcCoe Idealize.SL.Sem

/-! # One grid point of the kernel -/

namespace Cert.KernelIdeal.Step

open Cert.KernelIdeal Cert.KernelIdeal.Gen Cert.KernelIdeal.Bands

variable {F : FTy → Type} [FloatOps F]

/-- The stores into the first left factor at a grid point, newest first, over the earlier stores `L`. -/
def lhs0 (tok : Vec F S1x2048 .i32) (mr r r' : Vec F S1x2048 .f32) (L : List (View.Piece (Elt F) S2x16x2048 .f32)) :
    List (View.Piece (Elt F) S2x16x2048 .f32) :=
  ⟨Rect.unit ![0, 10, 0] S1x1x2048.size inb_S2x16x2048_S1x1x2048_0_10_0, k0_pay51 r⟩ ::
  ⟨Rect.unit ![0, 8, 0] S1x1x2048.size inb_S2x16x2048_S1x1x2048_0_8_0, k0_pay50 mr⟩ ::
  ⟨Rect.unit ![0, 0, 0] S1x8x2048.size inb_S2x16x2048_S1x8x2048_0_0_0, k0_pay49 tok r'⟩ :: L

/-- The stores into the second left factor. -/
def lhs1 (tok : Vec F S1x2048 .i32) (mr r r' : Vec F S1x2048 .f32) (L : List (View.Piece (Elt F) S2x16x2048 .f32)) :
    List (View.Piece (Elt F) S2x16x2048 .f32) :=
  ⟨Rect.unit ![1, 10, 0] S1x1x2048.size inb_S2x16x2048_S1x1x2048_1_10_0, k0_pay56 r⟩ ::
  ⟨Rect.unit ![1, 8, 0] S1x1x2048.size inb_S2x16x2048_S1x1x2048_1_8_0, k0_pay55 mr⟩ ::
  ⟨Rect.unit ![1, 0, 0] S1x8x2048.size inb_S2x16x2048_S1x8x2048_1_0_0,
    k0_pay54 (iota Kind.tc S8x2048 32 [0] iota_S8x2048_d0_w32) tok r'⟩ :: L

/-- The store into the first right factor. -/
def rhs0 (x : Vec F S1x512 .f32) (L : List (View.Piece (Elt F) S2x16x512 .f32)) :
    List (View.Piece (Elt F) S2x16x512 .f32) :=
  ⟨Rect.unit ![0, 10, 0] S1x1x512.size inb_S2x16x512_S1x1x512_0_10_0, k0_pay52 x⟩ :: L

/-- The store into the second right factor. -/
def rhs1 (x : Vec F S1x512 .f32) (L : List (View.Piece (Elt F) S2x16x512 .f32)) :
    List (View.Piece (Elt F) S2x16x512 .f32) :=
  ⟨Rect.unit ![1, 10, 0] S1x1x512.size inb_S2x16x512_S1x1x512_1_10_0, k0_pay57 x⟩ :: L

/-- The result stores of a grid point, from the factors, the position rows and the transposed scales. -/
def outs (i : grid0.Coords) (ppg : Vec F S2048x512 .f32) (rt : Vec F S2048x64 .f32)
    (l0 l1 : Vec F S1x16x2048 .f32) (q0 q1 : Vec F S1x16x512 .f32) : List (View.Piece (Elt F) S2x2048x512 .f32) :=
  [⟨Rect.unit ![1, 0, 0] S1x2048x512.size inb_S2x2048x512_S1x2048x512_1_0_0,
      k0_pay1 (k0_pay58 (iota Kind.tc S1x64 32 [1] iota_S1x64_d1_w32) ppg
        (Scalar.addi (Scalar.muli (BitVec.ofNat 32 ↑(i 0)) 2#32) 1#32) l1 q1 rt)⟩,
    ⟨Rect.unit ![0, 0, 0] S1x2048x512.size inb_S2x2048x512_S1x2048x512_0_0_0,
      k0_pay53 (iota Kind.tc S1x64 32 [1] iota_S1x64_d1_w32) ppg
        (Scalar.addi (Scalar.muli (BitVec.ofNat 32 ↑(i 0)) 2#32) 0#32) l0 q0 rt⟩]

section Loads

variable {e : EltTy}

/-- One row of a 64-row array of width 2048, loaded at a grid point. -/
def ldRow (i : grid0.Coords) (k : Fin 2) (v : View sig .tc .vmem S64x2048 e) (f : v.ty.Contents (Elt F)) : Vec F S1x2048 e :=
  View.readAt (Elt F) v (Rect.unit (s := S64x2048) (k0_off1 i (BitVec.ofNat 32 k.val)) S1x2048.size (k0_off1_inb i k)).toLoadRect f

/-- One row of a 64-row array of width 512, loaded at a grid point. -/
def ldRow' (i : grid0.Coords) (k : Fin 2) (v : View sig .tc .vmem S64x512 e) (f : v.ty.Contents (Elt F)) : Vec F S1x512 e :=
  View.readAt (Elt F) v (Rect.unit (s := S64x512) (k0_off2 i (BitVec.ofNat 32 k.val)) S1x512.size (k0_off2_inb i k)).toLoadRect f

end Loads

/-- The result block a grid point leaves, from the contents of the buffers before its own stores. -/
def block (i : grid0.Coords) (v1 : View sig .tc .vmem S64x2048 .i32) (f1 : v1.ty.Contents (Elt F))
    (v6 : View sig .tc .vmem S64x512 .f32) (f6 : v6.ty.Contents (Elt F))
    (v7 : View sig .tc .vmem S2048x512 .f32) (f7 : v7.ty.Contents (Elt F))
    (v8 : View sig .tc .vmem S64x2048 .f32) (f8 : v8.ty.Contents (Elt F))
    (v9 : View sig .tc .vmem S64x2048 .f32) (f9 : v9.ty.Contents (Elt F))
    (v10 : View sig .tc .vmem S2048x64 .f32) (f10 : v10.ty.Contents (Elt F))
    (v11 : View sig .tc .vmem S2x16x2048 .f32) (f11 : v11.ty.Contents (Elt F)) (L11 : List (View.Piece (Elt F) S2x16x2048 .f32))
    (v12 : View sig .tc .vmem S2x16x512 .f32) (f12 : v12.ty.Contents (Elt F)) (L12 : List (View.Piece (Elt F) S2x16x512 .f32)) :
    List (View.Piece (Elt F) S2x2048x512 .f32) :=
  outs i
    (View.readAt (Elt F) v7 (Rect.unit ![0, 0] S2048x512.size inb_S2048x512_S2048x512_0_0).toLoadRect f7)
    (View.readAt (Elt F) v10 (Rect.unit ![0, 0] S2048x64.size inb_S2048x64_S2048x64_0_0).toLoadRect f10)
    (View.readAt (Elt F) v11 (Rect.unit (s := S2x16x2048) ![0, 0, 0] S1x16x2048.size inb_S2x16x2048_S1x16x2048_0_0_0).toLoadRect
      (v11.writes (Elt F) f11 (lhs0 (ldRow i 0 v1 f1) (ldRow i 0 v8 f8) (ldRow i 0 v9 f9) (ldRow i 0 v9 f9) L11)))
    (View.readAt (Elt F) v11 (Rect.unit (s := S2x16x2048) ![1, 0, 0] S1x16x2048.size inb_S2x16x2048_S1x16x2048_1_0_0).toLoadRect
      (v11.writes (Elt F) f11 (lhs1 (ldRow i 1 v1 f1) (ldRow i 1 v8 f8) (ldRow i 1 v9 f9) (ldRow i 1 v9 f9)
        (lhs0 (ldRow i 0 v1 f1) (ldRow i 0 v8 f8) (ldRow i 0 v9 f9) (ldRow i 0 v9 f9) L11))))
    (View.readAt (Elt F) v12 (Rect.unit (s := S2x16x512) ![0, 0, 0] S1x16x512.size inb_S2x16x512_S1x16x512_0_0_0).toLoadRect
      (v12.writes (Elt F) f12 (rhs0 (ldRow' i 0 v6 f6) L12)))
    (View.readAt (Elt F) v12 (Rect.unit (s := S2x16x512) ![1, 0, 0] S1x16x512.size inb_S2x16x512_S1x16x512_1_0_0).toLoadRect
      (v12.writes (Elt F) f12 (rhs1 (ldRow' i 1 v6 f6) (rhs0 (ldRow' i 0 v6 f6) L12))))

end Cert.KernelIdeal.Step
-- ==== Proof.Init.lean ====
module

public import proofs.«01_k».proof.Proof.Step

@[expose] public section

set_option maxRecDepth 16384

noncomputable section

open Idealize.ShloMosaic Idealize.ShloMosaic.TcCoe Idealize.SL.Sem

/-! # What the first grid point computes once and keeps -/

namespace Cert.KernelIdeal.Step

open Cert.KernelIdeal Cert.KernelIdeal.Gen Cert.KernelIdeal.Bands

variable {F : FTy → Type} [FloatOps F]

/-- The matrices the first grid point loads: tokens, the parts of the packed weights and the parts of the packed
vectors. -/
structure Mats (F : FTy → Type) [FloatOps F] where
  /-- tokens -/
  tok : Vec F S64x2048 .i32
  /-- scale -/
  gam : Vec F S1x512 .f32
  /-- shift -/
  bet : Vec F S1x512 .f32
  /-- projection of the token rows -/
  W : Vec F S512x128 .f32
  /-- token table -/
  T : Vec F S8x128 .f32
  /-- expression data -/
  E : Vec F S64x128 .f32
  /-- first expression weights -/
  EW : Vec F S64x128 .f32
  /-- first expression bias -/
  EB : Vec F S1x64 .f32
  /-- second expression weights -/
  EP : Vec F S512x64 .f32
  /-- sum of the two projection biases -/
  B0 : Vec F S1x512 .f32
  /-- position rows -/
  P : Vec F S2048x128 .f32

namespace Mats

variable (M : Mats F)

/-- Projected token table. -/
def tp : FVec F S8x512 .f32 := k0_pay5 M.W M.T
/-- Projected expression rows, biases included. -/
def eh : FVec F S64x512 .f32 := k0_pay7 M.E M.EW M.EB M.EP M.B0
/-- Token tables' products with the position rows. -/
def g1 : FVec F S8x2048 .f32 := k0_pay11 (k0_pay4 M.W) M.tp M.P
/-- The five token tests. -/
def m1 : IVec S64x2048 1 := k0_pay19 M.tok
/-- second token test -/
def m2 : IVec S64x2048 1 := k0_pay20 M.tok
/-- third token test -/
def m3 : IVec S64x2048 1 := k0_pay21 M.tok
/-- fourth token test -/
def m4 : IVec S64x2048 1 := k0_pay22 M.tok
/-- fifth token test -/
def m5 : IVec S64x2048 1 := k0_pay23 M.tok
/-- Means. -/
def mu : FVec F S64x2048 .f32 :=
  k0_pay25 (k0_pay15 (k0_pay4 M.W) M.P) (k0_pay17 M.eh) M.m1 M.m2 M.m3 M.m4 M.m5 (k0_pay24 M.tp)
/-- Sums of squares. -/
def ss : FVec F S64x2048 .f32 :=
  k0_pay29 M.g1 (k0_pay12 M.tp M.eh) (k0_pay13 (k0_pay4 M.W) M.eh M.P) (k0_pay16 (k0_pay4 M.W) M.P) (k0_pay18 M.eh)
    M.m1 M.m2 M.m3 M.m4 M.m5 (k0_pay26 M.tp M.m1 M.m2 M.m3 M.m4 M.m5) (k0_pay27 M.g1) (k0_pay28 M.g1)
/-- Scaled expression rows, as kept. -/
def ehg : FVec F S64x512 .f32 := k0_pay8 M.gam M.E M.EW M.EB M.EP M.B0
/-- Scaled position rows, as kept. -/
def ppg : FVec F S2048x512 .f32 := k0_pay10 (k0_pay2 M.gam) (k0_pay4 M.W) M.P
/-- Reciprocal deviations, as kept. -/
def r : FVec F S64x2048 .f32 := k0_pay31 M.mu M.ss
/-- Means times reciprocal deviations, as kept. -/
def mr : FVec F S64x2048 .f32 := k0_pay32 M.mu M.ss
/-- Reciprocal deviations, transposed, as kept. -/
def rt : FVec F S2048x64 .f32 := k0_pay33 M.mu M.ss

/-- The stores that prepare the left factors, newest first. -/
def left : List (View.Piece (Elt F) S2x16x2048 .f32) :=
  [⟨Rect.unit ![1, 9, 0] S1x1x2048.size inb_S2x16x2048_S1x1x2048_1_9_0, k0_pay48⟩,
    ⟨Rect.unit ![1, 8, 0] S1x8x2048.size inb_S2x16x2048_S1x8x2048_1_8_0, k0_pay47 k0_pay46⟩,
    ⟨Rect.unit ![0, 9, 0] S1x1x2048.size inb_S2x16x2048_S1x1x2048_0_9_0, k0_pay41⟩,
    ⟨Rect.unit ![0, 8, 0] S1x8x2048.size inb_S2x16x2048_S1x8x2048_0_8_0, k0_pay40⟩]

/-- The stores that prepare the right factors, newest first. -/
def right : List (View.Piece (Elt F) S2x16x512 .f32) :=
  [⟨Rect.unit ![1, 10, 0] S1x6x512.size inb_S2x16x512_S1x6x512_1_10_0, k0_pay45⟩,
    ⟨Rect.unit ![1, 9, 0] S1x1x512.size inb_S2x16x512_S1x1x512_1_9_0, k0_pay44 (k0_pay3 M.bet)⟩,
    ⟨Rect.unit ![1, 8, 0] S1x1x512.size inb_S2x16x512_S1x1x512_1_8_0, k0_pay43 (k0_pay2 M.gam)⟩,
    ⟨Rect.unit ![1, 0, 0] S1x8x512.size inb_S2x16x512_S1x8x512_1_0_0, k0_pay42 (k0_pay34 (k0_pay2 M.gam) M.tp)⟩,
    ⟨Rect.unit ![0, 10, 0] S1x6x512.size inb_S2x16x512_S1x6x512_0_10_0, k0_pay39 k0_pay38⟩,
    ⟨Rect.unit ![0, 9, 0] S1x1x512.size inb_S2x16x512_S1x1x512_0_9_0, k0_pay37 (k0_pay3 M.bet)⟩,
    ⟨Rect.unit ![0, 8, 0] S1x1x512.size inb_S2x16x512_S1x1x512_0_8_0, k0_pay36 (k0_pay2 M.gam)⟩,
    ⟨Rect.unit ![0, 0, 0] S1x8x512.size inb_S2x16x512_S1x8x512_0_0_0, k0_pay35 (k0_pay2 M.gam) M.tp⟩]

end Mats

/-- The rows from `r` on and the first `w` columns of a matrix. -/
def part {e : EltTy} {R C : ℕ} (x : Vec F ⟨2, ![R, C]⟩ e) (r n w : ℕ) (hr : r + n ≤ R) (hw : w ≤ C) : Vec F ⟨2, ![n, w]⟩ e :=
  fun j => x (ix2 ⟨r + (j 0).val, by have : (j 0).val < n := (j 0).isLt; omega⟩ ⟨(j 1).val, by have : (j 1).val < w := (j 1).isLt; omega⟩)

/-- The matrices, loaded from the three operands' buffers. -/
def ldMats (v1 : View sig .tc .vmem S64x2048 .i32) (f1 : v1.ty.Contents (Elt F))
    (v2 : View sig .tc .vmem S3208x128 .f32) (f2 : v2.ty.Contents (Elt F))
    (v3 : View sig .tc .vmem S4x512 .f32) (f3 : v3.ty.Contents (Elt F)) : Mats F where
  tok := View.readAt (Elt F) v1 (Rect.unit (s := S64x2048) ![0, 0] S64x2048.size inb_S64x2048_S64x2048_0_0).toLoadRect f1
  gam := View.readAt (Elt F) v3 (Rect.unit (s := S4x512) ![1, 0] S1x512.size inb_S4x512_S1x512_1_0).toLoadRect f3
  bet := View.readAt (Elt F) v3 (Rect.unit (s := S4x512) ![2, 0] S1x512.size inb_S4x512_S1x512_2_0).toLoadRect f3
  W := View.readAt (Elt F) v2 (Rect.unit (s := S3208x128) ![8, 0] S512x128.size inb_S3208x128_S512x128_8_0).toLoadRect f2
  T := View.readAt (Elt F) v2 (Rect.unit (s := S3208x128) ![0, 0] S8x128.size inb_S3208x128_S8x128_0_0).toLoadRect f2
  E := View.readAt (Elt F) v2 (Rect.unit (s := S3208x128) ![520, 0] S64x128.size inb_S3208x128_S64x128_520_0).toLoadRect f2
  EW := View.readAt (Elt F) v2 (Rect.unit (s := S3208x128) ![584, 0] S64x128.size inb_S3208x128_S64x128_584_0).toLoadRect f2
  EB := View.readAt (Elt F) v3 (Rect.unit (s := S4x512) ![3, 0] S1x64.size inb_S4x512_S1x64_3_0).toLoadRect f3
  EP := View.readAt (Elt F) v2 (Rect.unit (s := S3208x128) ![648, 0] S512x64.size inb_S3208x128_S512x64_648_0).toLoadRect f2
  B0 := View.readAt (Elt F) v3 (Rect.unit (s := S4x512) ![0, 0] S1x512.size inb_S4x512_S1x512_0_0).toLoadRect f3
  P := View.readAt (Elt F) v2 (Rect.unit (s := S3208x128) ![1160, 0] S2048x128.size inb_S3208x128_S2048x128_1160_0).toLoadRect f2

/-- The matrices, cut from the three operands. -/
def mats (x0 : Vec F S64x2048 .i32) (x1 : Vec F S3208x128 .f32) (x2 : Vec F S4x512 .f32) : Mats F where
  tok := x0
  gam := part x2 1 1 512 (by decide) (by decide)
  bet := part x2 2 1 512 (by decide) (by decide)
  W := part x1 8 512 128 (by decide) (by decide)
  T := part x1 0 8 128 (by decide) (by decide)
  E := part x1 520 64 128 (by decide) (by decide)
  EW := part x1 584 64 128 (by decide) (by decide)
  EB := part x2 3 1 64 (by decide) (by decide)
  EP := part x1 648 512 64 (by decide) (by decide)
  B0 := part x2 0 1 512 (by decide) (by decide)
  P := part x1 1160 2048 128 (by decide) (by decide)

/-- A load of a block of rows is that part of what the buffer reads. -/
theorem readAt_part {e : EltTy} {R C : ℕ} (v : View sig .tc .vmem ⟨2, ![R, C]⟩ e) (f : v.ty.Contents (Elt F)) (r n w : ℕ)
    (inb : ∀ a, (![r, 0] : Fin 2 → ℕ) a + (![n, w] : Fin 2 → ℕ) a ≤ (⟨2, ![R, C]⟩ : Shape).size a) (hr : r + n ≤ R) (hw : w ≤ C) :
    View.readAt (Elt F) v (Rect.unit (s := ⟨2, ![R, C]⟩) ![r, 0] ![n, w] inb).toLoadRect f
      = part (F := F) (v.read (Elt F) f) r n w hr hw := by
  funext j
  have hj : j = ix2 (j 0) (j 1) := eq_ix2 j
  rw [hj]
  exact readAt_rows v f ![r, 0] r n w rfl inb (j 0) (j 1) _ _

/-- Loading the matrices from buffers that read the operands gives the operands' parts. -/
theorem ldMats_eq (v1 : View sig .tc .vmem S64x2048 .i32) (f1 : v1.ty.Contents (Elt F))
    (v2 : View sig .tc .vmem S3208x128 .f32) (f2 : v2.ty.Contents (Elt F))
    (v3 : View sig .tc .vmem S4x512 .f32) (f3 : v3.ty.Contents (Elt F)) :
    ldMats v1 f1 v2 f2 v3 f3 = mats (v1.read (Elt F) f1) (v2.read (Elt F) f2) (v3.read (Elt F) f3) := by
  unfold ldMats mats
  congr 1
  · exact readAt_whole v1 f1 _
  all_goals exact readAt_part _ _ _ _ _ _ _ _

end Cert.KernelIdeal.Step
-- ==== Proof.Cases.lean ====
module

public import proofs.«01_k».proof.Proof.Init

@[expose] public section

set_option maxRecDepth 16384

noncomputable section

open Idealize.ShloMosaic Idealize.ShloMosaic.TcCoe Idealize.SL.Sem

namespace Cert.KernelIdeal.Step

open Cert.KernelIdeal Cert.KernelIdeal.Gen Cert.KernelIdeal.Bands

variable {F : FTy → Type} [FloatOps F]

section Later

variable (c : Dev nD) (i : grid0.Coords) (arg1 : Memref sig .tc .vmem S64x2048 .i32) (harg1 : arg1.IsWhole) (arg2 : Memref sig .tc .vmem S3208x128 .f32) (harg2 : arg2.IsWhole) (arg3 : Memref sig .tc .vmem S4x512 .f32) (harg3 : arg3.IsWhole) (arg4 : Memref sig .tc .vmem S2x2048x512 .f32) (harg4 : arg4.IsWhole) (arg5 : Memref sig .tc .vmem S8x512 .f32) (harg5 : arg5.IsWhole) (arg6 : Memref sig .tc .vmem S64x512 .f32) (harg6 : arg6.IsWhole) (arg7 : Memref sig .tc .vmem S2048x512 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S2048x64 .f32) (harg10 : arg10.IsWhole) (arg11 : Memref sig .tc .vmem S2x16x2048 .f32) (harg11 : arg11.IsWhole) (arg12 : Memref sig .tc .vmem S2x16x512 .f32) (harg12 : arg12.IsWhole) (hc : ¬ cond0_0 i)
    (x0 : Vec F S64x2048 .i32) (x1 : Vec F S3208x128 .f32) (x2 : Vec F S4x512 .f32) (xs1 : Vec F S64x512 .f32) (xs2 : Vec F S2048x512 .f32) (xs3 : Vec F S64x2048 .f32) (xs4 : Vec F S64x2048 .f32) (xs5 : Vec F S2048x64 .f32) (xs6 : Vec F S2x16x2048 .f32) (xs7 : Vec F S2x16x512 .f32)

/-- At a later grid point the result block is the one `block` names, the buffers holding what the point before left. -/
theorem out_later : out0_B_3 c i arg1 harg1 arg2 harg2 arg3 harg3 arg4 harg4 arg5 harg5 arg6 harg6 arg7 harg7 arg8 harg8 arg9 harg9 arg10 harg10 arg11 harg11 arg12 harg12 hc x0 x1 x2 xs1 xs2 xs3 xs4 xs5 xs6 xs7 = View.canon (block i arg1.view (harg1.unread x0) arg6.view (harg6.unread xs1) arg7.view (harg7.unread xs2)
      arg8.view (harg8.unread xs3) arg9.view (harg9.unread xs4) arg10.view (harg10.unread xs5)
      arg11.view (harg11.unread xs6) [] arg12.view (harg12.unread xs7) []) := by
  unfold out0_B_3
  rw [View.read_writes_eq_canon _ _ _ (cover0_B_3 c i arg1 harg1 arg2 harg2 arg3 harg3 arg4 harg4 arg5 harg5 arg6 harg6 arg7 harg7 arg8 harg8 arg9 harg9 arg10 harg10 arg11 harg11 arg12 harg12 hc x0 x1 x2 xs1 xs2 xs3 xs4 xs5 xs6 xs7)]
  unfold kernelRun0_B
  rfl

theorem left_later : sout0_B_6 c i arg1 harg1 arg2 harg2 arg3 harg3 arg4 harg4 arg5 harg5 arg6 harg6 arg7 harg7 arg8 harg8 arg9 harg9 arg10 harg10 arg11 harg11 arg12 harg12 hc x0 x1 x2 xs1 xs2 xs3 xs4 xs5 xs6 xs7 = arg11.view.read (Elt F) (arg11.view.writes (Elt F) (harg11.unread xs6)
      (lhs1 (ldRow i 1 arg1.view (harg1.unread x0)) (ldRow i 1 arg8.view (harg8.unread xs3)) (ldRow i 1 arg9.view (harg9.unread xs4)) (ldRow i 1 arg9.view (harg9.unread xs4))
        (lhs0 (ldRow i 0 arg1.view (harg1.unread x0)) (ldRow i 0 arg8.view (harg8.unread xs3)) (ldRow i 0 arg9.view (harg9.unread xs4)) (ldRow i 0 arg9.view (harg9.unread xs4)) []))) := by
  unfold sout0_B_6 kernelRun0_B
  rfl

theorem right_later : sout0_B_7 c i arg1 harg1 arg2 harg2 arg3 harg3 arg4 harg4 arg5 harg5 arg6 harg6 arg7 harg7 arg8 harg8 arg9 harg9 arg10 harg10 arg11 harg11 arg12 harg12 hc x0 x1 x2 xs1 xs2 xs3 xs4 xs5 xs6 xs7 = arg12.view.read (Elt F) (arg12.view.writes (Elt F) (harg12.unread xs7)
      (rhs1 (ldRow' i 1 arg6.view (harg6.unread xs1)) (rhs0 (ldRow' i 0 arg6.view (harg6.unread xs1)) []))) := by
  unfold sout0_B_7 kernelRun0_B
  rfl

end Later

section First

variable (c : Dev nD) (i : grid0.Coords) (arg1 : Memref sig .tc .vmem S64x2048 .i32) (harg1 : arg1.IsWhole) (arg2 : Memref sig .tc .vmem S3208x128 .f32) (harg2 : arg2.IsWhole) (arg3 : Memref sig .tc .vmem S4x512 .f32) (harg3 : arg3.IsWhole) (arg4 : Memref sig .tc .vmem S2x2048x512 .f32) (harg4 : arg4.IsWhole) (arg5 : Memref sig .tc .vmem S8x512 .f32) (harg5 : arg5.IsWhole) (arg6 : Memref sig .tc .vmem S64x512 .f32) (harg6 : arg6.IsWhole) (arg7 : Memref sig .tc .vmem S2048x512 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S2048x64 .f32) (harg10 : arg10.IsWhole) (arg11 : Memref sig .tc .vmem S2x16x2048 .f32) (harg11 : arg11.IsWhole) (arg12 : Memref sig .tc .vmem S2x16x512 .f32) (harg12 : arg12.IsWhole) (hc : cond0_0 i)
    (x0 : Vec F S64x2048 .i32) (x1 : Vec F S3208x128 .f32) (x2 : Vec F S4x512 .f32)

theorem ehg_first : sout0_A_1 c i arg1 harg1 arg2 harg2 arg3 harg3 arg4 harg4 arg5 harg5 arg6 harg6 arg7 harg7 arg8 harg8 arg9 harg9 arg10 harg10 arg11 harg11 arg12 harg12 hc x0 x1 x2 = View.canon [⟨Rect.unit ![0, 0] S64x512.size inb_S64x512_S64x512_0_0, (ldMats arg1.view (harg1.unread x0) arg2.view (harg2.unread x1) arg3.view (harg3.unread x2)).ehg⟩] := by
  unfold sout0_A_1
  rw [View.read_writes_junk_eq_canon]
  unfold kernelRun0_A
  rfl

theorem ppg_first : sout0_A_2 c i arg1 harg1 arg2 harg2 arg3 harg3 arg4 harg4 arg5 harg5 arg6 harg6 arg7 harg7 arg8 harg8 arg9 harg9 arg10 harg10 arg11 harg11 arg12 harg12 hc x0 x1 x2 = View.canon [⟨Rect.unit ![0, 0] S2048x512.size inb_S2048x512_S2048x512_0_0, (ldMats arg1.view (harg1.unread x0) arg2.view (harg2.unread x1) arg3.view (harg3.unread x2)).ppg⟩] := by
  unfold sout0_A_2
  rw [View.read_writes_junk_eq_canon]
  unfold kernelRun0_A
  rfl

theorem mr_first : sout0_A_3 c i arg1 harg1 arg2 harg2 arg3 harg3 arg4 harg4 arg5 harg5 arg6 harg6 arg7 harg7 arg8 harg8 arg9 harg9 arg10 harg10 arg11 harg11 arg12 harg12 hc x0 x1 x2 = View.canon [⟨Rect.unit ![0, 0] S64x2048.size inb_S64x2048_S64x2048_0_0, (ldMats arg1.view (harg1.unread x0) arg2.view (harg2.unread x1) arg3.view (harg3.unread x2)).mr⟩] := by
  unfold sout0_A_3
  rw [View.read_writes_junk_eq_canon]
  unfold kernelRun0_A
  rfl

theorem r_first : sout0_A_4 c i arg1 harg1 arg2 harg2 arg3 harg3 arg4 harg4 arg5 harg5 arg6 harg6 arg7 harg7 arg8 harg8 arg9 harg9 arg10 harg10 arg11 harg11 arg12 harg12 hc x0 x1 x2 = View.canon [⟨Rect.unit ![0, 0] S64x2048.size inb_S64x2048_S64x2048_0_0, (ldMats arg1.view (harg1.unread x0) arg2.view (harg2.unread x1) arg3.view (harg3.unread x2)).r⟩] := by
  unfold sout0_A_4
  rw [View.read_writes_junk_eq_canon]
  unfold kernelRun0_A
  rfl

theorem rt_first : sout0_A_5 c i arg1 harg1 arg2 harg2 arg3 harg3 arg4 harg4 arg5 harg5 arg6 harg6 arg7 harg7 arg8 harg8 arg9 harg9 arg10 harg10 arg11 harg11 arg12 harg12 hc x0 x1 x2 = View.canon [⟨Rect.unit ![0, 0] S2048x64.size inb_S2048x64_S2048x64_0_0, (ldMats arg1.view (harg1.unread x0) arg2.view (harg2.unread x1) arg3.view (harg3.unread x2)).rt⟩] := by
  unfold sout0_A_5
  rw [View.read_writes_junk_eq_canon]
  unfold kernelRun0_A
  rfl

set_option maxHeartbeats 2000000 in
theorem left_first : sout0_A_6 c i arg1 harg1 arg2 harg2 arg3 harg3 arg4 harg4 arg5 harg5 arg6 harg6 arg7 harg7 arg8 harg8 arg9 harg9 arg10 harg10 arg11 harg11 arg12 harg12 hc x0 x1 x2 = View.canon
      (lhs1 (ldRow i 1 arg1.view (harg1.unread x0)) (ldRow i 1 arg8.view (arg8.view.writes (Elt F) arg8.view.junk [⟨Rect.unit ![0, 0] S64x2048.size inb_S64x2048_S64x2048_0_0, (ldMats arg1.view (harg1.unread x0) arg2.view (harg2.unread x1) arg3.view (harg3.unread x2)).mr⟩])) (ldRow i 1 arg9.view (arg9.view.writes (Elt F) arg9.view.junk [⟨Rect.unit ![0, 0] S64x2048.size inb_S64x2048_S64x2048_0_0, (ldMats arg1.view (harg1.unread x0) arg2.view (harg2.unread x1) arg3.view (harg3.unread x2)).r⟩])) (ldRow i 1 arg9.view (arg9.view.writes (Elt F) arg9.view.junk [⟨Rect.unit ![0, 0] S64x2048.size inb_S64x2048_S64x2048_0_0, (ldMats arg1.view (harg1.unread x0) arg2.view (harg2.unread x1) arg3.view (harg3.unread x2)).r⟩]))
        (lhs0 (ldRow i 0 arg1.view (harg1.unread x0)) (ldRow i 0 arg8.view (arg8.view.writes (Elt F) arg8.view.junk [⟨Rect.unit ![0, 0] S64x2048.size inb_S64x2048_S64x2048_0_0, (ldMats arg1.view (harg1.unread x0) arg2.view (harg2.unread x1) arg3.view (harg3.unread x2)).mr⟩])) (ldRow i 0 arg9.view (arg9.view.writes (Elt F) arg9.view.junk [⟨Rect.unit ![0, 0] S64x2048.size inb_S64x2048_S64x2048_0_0, (ldMats arg1.view (harg1.unread x0) arg2.view (harg2.unread x1) arg3.view (harg3.unread x2)).r⟩])) (ldRow i 0 arg9.view (arg9.view.writes (Elt F) arg9.view.junk [⟨Rect.unit ![0, 0] S64x2048.size inb_S64x2048_S64x2048_0_0, (ldMats arg1.view (harg1.unread x0) arg2.view (harg2.unread x1) arg3.view (harg3.unread x2)).r⟩])) Mats.left)) := by
  unfold sout0_A_6
  rw [View.read_writes_junk_eq_canon]
  unfold kernelRun0_A
  rfl

theorem right_first : sout0_A_7 c i arg1 harg1 arg2 harg2 arg3 harg3 arg4 harg4 arg5 harg5 arg6 harg6 arg7 harg7 arg8 harg8 arg9 harg9 arg10 harg10 arg11 harg11 arg12 harg12 hc x0 x1 x2 = View.canon (rhs1 (ldRow' i 1 arg6.view (arg6.view.writes (Elt F) arg6.view.junk [⟨Rect.unit ![0, 0] S64x512.size inb_S64x512_S64x512_0_0, (ldMats arg1.view (harg1.unread x0) arg2.view (harg2.unread x1) arg3.view (harg3.unread x2)).ehg⟩])) (rhs0 (ldRow' i 0 arg6.view (arg6.view.writes (Elt F) arg6.view.junk [⟨Rect.unit ![0, 0] S64x512.size inb_S64x512_S64x512_0_0, (ldMats arg1.view (harg1.unread x0) arg2.view (harg2.unread x1) arg3.view (harg3.unread x2)).ehg⟩])) (ldMats arg1.view (harg1.unread x0) arg2.view (harg2.unread x1) arg3.view (harg3.unread x2)).right)) := by
  unfold sout0_A_7
  rw [View.read_writes_junk_eq_canon]
  unfold kernelRun0_A
  rfl

set_option maxHeartbeats 2000000 in
theorem out_first : out0_A_3 c i arg1 harg1 arg2 harg2 arg3 harg3 arg4 harg4 arg5 harg5 arg6 harg6 arg7 harg7 arg8 harg8 arg9 harg9 arg10 harg10 arg11 harg11 arg12 harg12 hc x0 x1 x2 = View.canon (block i arg1.view (harg1.unread x0) arg6.view (arg6.view.writes (Elt F) arg6.view.junk [⟨Rect.unit ![0, 0] S64x512.size inb_S64x512_S64x512_0_0, (ldMats arg1.view (harg1.unread x0) arg2.view (harg2.unread x1) arg3.view (harg3.unread x2)).ehg⟩]) arg7.view (arg7.view.writes (Elt F) arg7.view.junk [⟨Rect.unit ![0, 0] S2048x512.size inb_S2048x512_S2048x512_0_0, (ldMats arg1.view (harg1.unread x0) arg2.view (harg2.unread x1) arg3.view (harg3.unread x2)).ppg⟩])
      arg8.view (arg8.view.writes (Elt F) arg8.view.junk [⟨Rect.unit ![0, 0] S64x2048.size inb_S64x2048_S64x2048_0_0, (ldMats arg1.view (harg1.unread x0) arg2.view (harg2.unread x1) arg3.view (harg3.unread x2)).mr⟩]) arg9.view (arg9.view.writes (Elt F) arg9.view.junk [⟨Rect.unit ![0, 0] S64x2048.size inb_S64x2048_S64x2048_0_0, (ldMats arg1.view (harg1.unread x0) arg2.view (harg2.unread x1) arg3.view (harg3.unread x2)).r⟩]) arg10.view (arg10.view.writes (Elt F) arg10.view.junk [⟨Rect.unit ![0, 0] S2048x64.size inb_S2048x64_S2048x64_0_0, (ldMats arg1.view (harg1.unread x0) arg2.view (harg2.unread x1) arg3.view (harg3.unread x2)).rt⟩])
      arg11.view arg11.view.junk Mats.left arg12.view arg12.view.junk (ldMats arg1.view (harg1.unread x0) arg2.view (harg2.unread x1) arg3.view (harg3.unread x2)).right) := by
  unfold out0_A_3
  rw [View.read_writes_junk_eq_canon]
  unfold kernelRun0_A
  rfl

end First

end Cert.KernelIdeal.Step
-- ==== Proof.Pays.lean ====
module

public import proofs.«01_k».proof.Proof.Init

@[expose] public section

set_option maxRecDepth 16384

noncomputable section

open Idealize.ShloMosaic Idealize.ShloMosaic.TcCoe Idealize.SL.Sem

/-! # The stored values of a grid point, entry by entry -/

namespace Cert.KernelIdeal.Pays

open Cert.KernelIdeal Cert.KernelIdeal.Gen

/-- A choice by an equality test is an `if`. -/
theorem select_eq {α : Type} (a b : BitVec 32) (x y : α) :
    Scalar.select (IntOp.cmpi CmpIPredicate.eq a b) x y = if a = b then x else y := by
  unfold Scalar.select IntOp.cmpi
  by_cases h : a = b
  · simp [h]
  · have hb : (a == b) = false := by simpa using h
    simp [h, hb]

/-- An equality test, turned into a number, is one or zero. -/
theorem test_eq (a b : BitVec 32) :
    (FloatOps.sitofp (F := Ideal) FTy.f32 (BitVec.setWidth 32 (IntOp.cmpi CmpIPredicate.eq a b)) : EReal)
      = if a = b then 1 else 0 := by
  show ((((IntOp.cmpi CmpIPredicate.eq a b).setWidth 32).toInt : ℝ) : EReal) = _
  unfold IntOp.cmpi
  by_cases h : a = b
  · simp [h]
  · have hb : (a == b) = false := by simpa using h
    simp [h, hb]

/-- The one-hot rows of the first left factor. -/
theorem pay49 (t : Vec Ideal S1x2048 .i32) (r : Vec Ideal S1x2048 .f32) (u : Fin 1) (b : Fin 8) (c : Fin 2048) :
    k0_pay49 t r (ix3 u b c) = if BitVec.ofNat 32 b.val = t (ix2 0 c) then r (ix2 0 c) else (0 : EReal) := by
  pointwise [k0_pay49]
  exact select_eq _ _ _ _

/-- The one-hot rows of the second left factor. -/
theorem pay54 (t : Vec Ideal S1x2048 .i32) (r : Vec Ideal S1x2048 .f32) (u : Fin 1) (b : Fin 8) (c : Fin 2048) :
    k0_pay54 (iota Kind.tc S8x2048 32 [0] iota_S8x2048_d0_w32) t r (ix3 u b c)
      = if BitVec.ofNat 32 b.val = t (ix2 0 c) then r (ix2 0 c) else (0 : EReal) := by
  pointwise [k0_pay54]
  exact select_eq _ _ _ _

theorem pay50 (x : Vec Ideal S1x2048 .f32) (u v : Fin 1) (c : Fin 2048) : k0_pay50 x (ix3 u v c) = x (ix2 0 c) := by
  pointwise [k0_pay50]

theorem pay51 (x : Vec Ideal S1x2048 .f32) (u v : Fin 1) (c : Fin 2048) : k0_pay51 x (ix3 u v c) = x (ix2 0 c) := by
  pointwise [k0_pay51]

theorem pay55 (x : Vec Ideal S1x2048 .f32) (u v : Fin 1) (c : Fin 2048) : k0_pay55 x (ix3 u v c) = x (ix2 0 c) := by
  pointwise [k0_pay55]

theorem pay56 (x : Vec Ideal S1x2048 .f32) (u v : Fin 1) (c : Fin 2048) : k0_pay56 x (ix3 u v c) = x (ix2 0 c) := by
  pointwise [k0_pay56]

theorem pay52 (x : Vec Ideal S1x512 .f32) (u v : Fin 1) (c : Fin 512) : k0_pay52 x (ix3 u v c) = x (ix2 0 c) := by
  pointwise [k0_pay52]

theorem pay57 (x : Vec Ideal S1x512 .f32) (u v : Fin 1) (c : Fin 512) : k0_pay57 x (ix3 u v c) = x (ix2 0 c) := by
  pointwise [k0_pay57]

/-- The result of the first batch row: the factors' product plus the scaled position row. -/
theorem pay53 (ppg : Vec Ideal S2048x512 .f32) (w : BitVec 32) (l : Vec Ideal S1x16x2048 .f32)
    (q : Vec Ideal S1x16x512 .f32) (rt : Vec Ideal S2048x64 .f32) (u : Fin 1) (s : Fin 2048) (h : Fin 512) :
    k0_pay53 (iota Kind.tc S1x64 32 [1] iota_S1x64_d1_w32) ppg w l q rt (ix3 u s h)
      = (∑ k : Fin 16, (l (ix3 0 k s) : EReal) * q (ix3 0 k h))
        + ppg (ix2 s h) * ∑ b : Fin 64, (rt (ix2 s b) : EReal) * (if BitVec.ofNat 32 b.val = w then 1 else 0) := by
  pointwise [k0_pay53]
  simp only [test_eq]

/-- The result of the second batch row. -/
theorem pay58 (ppg : Vec Ideal S2048x512 .f32) (w : BitVec 32) (l : Vec Ideal S1x16x2048 .f32)
    (q : Vec Ideal S1x16x512 .f32) (rt : Vec Ideal S2048x64 .f32) (u : Fin 1) (s : Fin 2048) (h : Fin 512) :
    k0_pay1 (k0_pay58 (iota Kind.tc S1x64 32 [1] iota_S1x64_d1_w32) ppg w l q rt) (ix3 u s h)
      = (∑ k : Fin 16, (l (ix3 0 k s) : EReal) * q (ix3 0 k h))
        + ppg (ix2 s h) * ∑ b : Fin 64, (rt (ix2 s b) : EReal) * (if BitVec.ofNat 32 b.val = w then 1 else 0) := by
  pointwise [k0_pay1, k0_pay58]
  simp only [test_eq]

theorem pay40 (u : Fin 1) (b : Fin 8) (c : Fin 2048) : k0_pay40 (F := Ideal) (ix3 u b c) = (0 : EReal) := by
  pointwise [k0_pay40]

theorem pay47 (u : Fin 1) (b : Fin 8) (c : Fin 2048) : k0_pay47 (F := Ideal) k0_pay46 (ix3 u b c) = (0 : EReal) := by
  pointwise [k0_pay47, k0_pay46]

theorem pay41 (u v : Fin 1) (c : Fin 2048) : k0_pay41 (F := Ideal) (ix3 u v c) = (1 : EReal) := by
  pointwise [k0_pay41]

theorem pay48 (u v : Fin 1) (c : Fin 2048) : k0_pay48 (F := Ideal) (ix3 u v c) = (1 : EReal) := by
  pointwise [k0_pay48]

theorem pay45 (u : Fin 1) (b : Fin 6) (c : Fin 512) : k0_pay45 (F := Ideal) (ix3 u b c) = (0 : EReal) := by
  pointwise [k0_pay45]

theorem pay39 (u : Fin 1) (b : Fin 6) (c : Fin 512) : k0_pay39 (F := Ideal) k0_pay38 (ix3 u b c) = (0 : EReal) := by
  pointwise [k0_pay39, k0_pay38]

theorem pay44 (x : Vec Ideal S1x512 .f32) (u v : Fin 1) (c : Fin 512) :
    k0_pay44 (k0_pay3 x) (ix3 u v c) = x (ix2 0 c) := by
  pointwise [k0_pay44, k0_pay3]

theorem pay37 (x : Vec Ideal S1x512 .f32) (u v : Fin 1) (c : Fin 512) :
    k0_pay37 (k0_pay3 x) (ix3 u v c) = x (ix2 0 c) := by
  pointwise [k0_pay37, k0_pay3]

theorem pay43 (x : Vec Ideal S1x512 .f32) (u v : Fin 1) (c : Fin 512) :
    k0_pay43 (k0_pay2 x) (ix3 u v c) = (0 : EReal) - x (ix2 0 c) := by
  pointwise [k0_pay43, k0_pay2]

theorem pay36 (x : Vec Ideal S1x512 .f32) (u v : Fin 1) (c : Fin 512) :
    k0_pay36 (k0_pay2 x) (ix3 u v c) = (0 : EReal) - x (ix2 0 c) := by
  pointwise [k0_pay36, k0_pay2]

theorem pay42 (x : Vec Ideal S1x512 .f32) (y : FVec Ideal S8x512 .f32) (u : Fin 1) (b : Fin 8) (c : Fin 512) :
    k0_pay42 (k0_pay34 (k0_pay2 x) y) (ix3 u b c) = (y (ix2 b c) : EReal) * x (ix2 0 c) := by
  pointwise [k0_pay42, k0_pay34, k0_pay2]

theorem pay35 (x : Vec Ideal S1x512 .f32) (y : FVec Ideal S8x512 .f32) (u : Fin 1) (b : Fin 8) (c : Fin 512) :
    k0_pay35 (k0_pay2 x) y (ix3 u b c) = (y (ix2 b c) : EReal) * x (ix2 0 c) := by
  pointwise [k0_pay35, k0_pay34, k0_pay2]

end Cert.KernelIdeal.Pays
-- ==== Proof.StepValue.lean ====
module

public import proofs.«01_k».proof.Proof.Pays

@[expose] public section

set_option maxRecDepth 16384

noncomputable section

open Idealize.ShloMosaic Idealize.ShloMosaic.TcCoe Idealize.SL.Sem

/-! # The factors and the result of a grid point, entry by entry -/

namespace Cert.KernelIdeal.Step

open Cert.KernelIdeal Cert.KernelIdeal.Gen Cert.KernelIdeal.Bands Cert.KernelIdeal.Pays

/-- An entry of a left factor after a grid point's stores: one-hot rows, the mean row, the deviation row, and elsewhere
what was there before. -/
def leftAt (t : BitVec 32) (m r : EReal) (b : ℕ) (base : EReal) : EReal :=
  if b < 8 then if BitVec.ofNat 32 b = t then r else 0
  else if b = 8 then m else if b = 10 then r else base

/-- An entry of a right factor after a grid point's store. -/
def rightAt (x : EReal) (b : ℕ) (base : EReal) : EReal := if b = 10 then x else base

section Left

variable (v : View sig .tc .vmem S2x16x2048 .f32) (f : v.ty.Contents (Elt Ideal)) (L : List (View.Piece (Elt Ideal) S2x16x2048 .f32))
  (t : Vec Ideal S1x2048 .i32) (m r : Vec Ideal S1x2048 .f32)

theorem read_lhs0 (a : Fin 2) (b : Fin 16) (c : Fin 2048) :
    v.read (Elt Ideal) (v.writes (Elt Ideal) f (lhs0 t m r r L)) (ix3 a b c)
      = if a = 0 then leftAt (t (ix2 0 c)) (m (ix2 0 c)) (r (ix2 0 c)) b.val (v.read (Elt Ideal) (v.writes (Elt Ideal) f L) (ix3 a b c))
        else v.read (Elt Ideal) (v.writes (Elt Ideal) f L) (ix3 a b c) := by
  unfold lhs0 leftAt
  refine (read_band v f 0 10 1 _ _ _ a b c).trans ?_
  rw [read_band v f 0 8 1 inb_S2x16x2048_S1x1x2048_0_8_0 (k0_pay50 m) _ a b c]
  rw [read_band v f 0 0 8 inb_S2x16x2048_S1x8x2048_0_0_0 (k0_pay49 t r) _ a b c]
  simp only [pay51, pay50, pay49, Fin.ext_iff]
  show (if h : a.val = 0 ∧ 10 ≤ b.val ∧ b.val < 10 + 1 then _ else _) = if a.val = 0 then _ else _
  by_cases ha : a.val = 0
  · by_cases h8 : b.val < 8
    · rw [dif_neg (by omega), dif_neg (by omega), dif_pos (by omega), if_pos ha, if_pos h8]
      rfl
    · by_cases h8' : b.val = 8
      · rw [dif_neg (by omega), dif_pos (by omega), if_pos ha, if_neg h8, if_pos h8']
      · by_cases h10 : b.val = 10
        · rw [dif_pos (by omega), if_pos ha, if_neg h8, if_neg h8', if_pos h10]
        · rw [dif_neg (by omega), dif_neg (by omega), dif_neg (by omega), if_pos ha, if_neg h8, if_neg h8', if_neg h10]
  · rw [dif_neg (by omega), dif_neg (by omega), dif_neg (by omega), if_neg ha]

theorem read_lhs1 (a : Fin 2) (b : Fin 16) (c : Fin 2048) :
    v.read (Elt Ideal) (v.writes (Elt Ideal) f (lhs1 t m r r L)) (ix3 a b c)
      = if a = 1 then leftAt (t (ix2 0 c)) (m (ix2 0 c)) (r (ix2 0 c)) b.val (v.read (Elt Ideal) (v.writes (Elt Ideal) f L) (ix3 a b c))
        else v.read (Elt Ideal) (v.writes (Elt Ideal) f L) (ix3 a b c) := by
  unfold lhs1 leftAt
  refine (read_band v f 1 10 1 _ _ _ a b c).trans ?_
  rw [read_band v f 1 8 1 inb_S2x16x2048_S1x1x2048_1_8_0 (k0_pay55 m) _ a b c]
  rw [read_band v f 1 0 8 inb_S2x16x2048_S1x8x2048_1_0_0
    (k0_pay54 (iota Kind.tc S8x2048 32 [0] iota_S8x2048_d0_w32) t r) _ a b c]
  simp only [pay56, pay55, pay54, Fin.ext_iff]
  show (if h : a.val = 1 ∧ 10 ≤ b.val ∧ b.val < 10 + 1 then _ else _) = if a.val = 1 then _ else _
  by_cases ha : a.val = 1
  · by_cases h8 : b.val < 8
    · rw [dif_neg (by omega), dif_neg (by omega), dif_pos (by omega), if_pos ha, if_pos h8]
      exact pay54 t r 0 ⟨b.val - 0, _⟩ c
    · by_cases h8' : b.val = 8
      · rw [dif_neg (by omega), dif_pos (by omega), if_pos ha, if_neg h8, if_pos h8']
      · by_cases h10 : b.val = 10
        · rw [dif_pos (by omega), if_pos ha, if_neg h8, if_neg h8', if_pos h10]
        · rw [dif_neg (by omega), dif_neg (by omega), dif_neg (by omega), if_pos ha, if_neg h8, if_neg h8', if_neg h10]
  · rw [dif_neg (by omega), dif_neg (by omega), dif_neg (by omega), if_neg ha]

end Left

section Right

variable (v : View sig .tc .vmem S2x16x512 .f32) (f : v.ty.Contents (Elt Ideal)) (L : List (View.Piece (Elt Ideal) S2x16x512 .f32))
  (x : Vec Ideal S1x512 .f32)

theorem read_rhs0 (a : Fin 2) (b : Fin 16) (c : Fin 512) :
    v.read (Elt Ideal) (v.writes (Elt Ideal) f (rhs0 x L)) (ix3 a b c)
      = if a = 0 then rightAt (x (ix2 0 c)) b.val (v.read (Elt Ideal) (v.writes (Elt Ideal) f L) (ix3 a b c))
        else v.read (Elt Ideal) (v.writes (Elt Ideal) f L) (ix3 a b c) := by
  unfold rhs0 rightAt
  refine (read_band v f 0 10 1 _ _ _ a b c).trans ?_
  simp only [pay52, Fin.ext_iff]
  show (if h : a.val = 0 ∧ 10 ≤ b.val ∧ b.val < 10 + 1 then _ else _) = if a.val = 0 then _ else _
  by_cases ha : a.val = 0
  · by_cases h10 : b.val = 10
    · rw [dif_pos (by omega), if_pos ha, if_pos h10]
    · rw [dif_neg (by omega), if_pos ha, if_neg h10]
  · rw [dif_neg (by omega), if_neg ha]

theorem read_rhs1 (a : Fin 2) (b : Fin 16) (c : Fin 512) :
    v.read (Elt Ideal) (v.writes (Elt Ideal) f (rhs1 x L)) (ix3 a b c)
      = if a = 1 then rightAt (x (ix2 0 c)) b.val (v.read (Elt Ideal) (v.writes (Elt Ideal) f L) (ix3 a b c))
        else v.read (Elt Ideal) (v.writes (Elt Ideal) f L) (ix3 a b c) := by
  unfold rhs1 rightAt
  refine (read_band v f 1 10 1 _ _ _ a b c).trans ?_
  simp only [pay57, Fin.ext_iff]
  show (if h : a.val = 1 ∧ 10 ≤ b.val ∧ b.val < 10 + 1 then _ else _) = if a.val = 1 then _ else _
  by_cases ha : a.val = 1
  · by_cases h10 : b.val = 10
    · rw [dif_pos (by omega), if_pos ha, if_pos h10]
    · rw [dif_neg (by omega), if_pos ha, if_neg h10]
  · rw [dif_neg (by omega), if_neg ha]

end Right

/-- The batch row a grid point handles as its `k`-th. -/
def brow (i : grid0.Coords) (k : Fin 2) : Fin 64 :=
  ⟨2 * (i 0).val + k.val, by have : (i 0).val < 32 := (i 0).isLt; omega⟩

theorem off_val (n k : ℕ) (hn : n < 32) (hk : k < 2) :
    Scalar.addi (Scalar.muli (BitVec.ofNat 32 n) 2#32) (BitVec.ofNat 32 k) = BitVec.ofNat 32 (2 * n + k) := by
  apply BitVec.eq_of_toNat_eq
  simp [Scalar.addi, Scalar.muli, IntOp.addi, IntOp.muli]
  omega

/-- The row a grid point loads. -/
theorem ldRow_apply {e : EltTy} (i : grid0.Coords) (k : Fin 2) (v : View sig .tc .vmem S64x2048 e)
    (f : v.ty.Contents (Elt Ideal)) (x : Fin 1) (c : Fin 2048) :
    ldRow i k v f (ix2 x c) = v.read (Elt Ideal) f (ix2 (brow i k) c) := by
  have hi : (i 0).val < 32 := (i 0).isLt
  have hx : x.val = 0 := by omega
  unfold ldRow
  refine (readAt_rows v f _ (2 * (i 0).val + k.val) 1 2048 ?_ _ x c (by omega) c.isLt).trans ?_
  · unfold k0_off1
    simp only [off_val _ _ hi k.isLt]
    congr 1
    simp [Scalar.indexCast]
    omega
  · congr 1
    simp [brow, hx]

/-- The row of expression values a grid point loads. -/
theorem ldRow'_apply {e : EltTy} (i : grid0.Coords) (k : Fin 2) (v : View sig .tc .vmem S64x512 e)
    (f : v.ty.Contents (Elt Ideal)) (x : Fin 1) (c : Fin 512) :
    ldRow' i k v f (ix2 x c) = v.read (Elt Ideal) f (ix2 (brow i k) c) := by
  have hi : (i 0).val < 32 := (i 0).isLt
  have hx : x.val = 0 := by omega
  unfold ldRow'
  refine (readAt_rows v f _ (2 * (i 0).val + k.val) 1 512 ?_ _ x c (by omega) c.isLt).trans ?_
  · unfold k0_off2
    simp only [off_val _ _ hi k.isLt]
    congr 1
    simp [Scalar.indexCast]
    omega
  · congr 1
    simp [brow, hx]

/-- The result blocks a grid point leaves: the factors' product and the scaled position row. -/
theorem read_outs (v : View sig .tc .vmem S2x2048x512 .f32) (f : v.ty.Contents (Elt Ideal)) (i : grid0.Coords)
    (ppg : Vec Ideal S2048x512 .f32) (rt : Vec Ideal S2048x64 .f32) (l : Fin 2 → Vec Ideal S1x16x2048 .f32)
    (q : Fin 2 → Vec Ideal S1x16x512 .f32) (a : Fin 2) (s : Fin 2048) (h : Fin 512) :
    v.read (Elt Ideal) (v.writes (Elt Ideal) f (outs i ppg rt (l 0) (l 1) (q 0) (q 1))) (ix3 a s h)
      = (∑ k : Fin 16, (l a (ix3 0 k s) : EReal) * q a (ix3 0 k h)) + ppg (ix2 s h) * rt (ix2 s (brow i a)) := by
  have hi : (i 0).val < 32 := (i 0).isLt
  have pick : ∀ k : Fin 2, (∑ b : Fin 64, (rt (ix2 s b) : EReal) * (if BitVec.ofNat 32 b.val
      = Scalar.addi (Scalar.muli (BitVec.ofNat 32 ↑(i 0)) 2#32) (BitVec.ofNat 32 k.val) then 1 else 0)) = rt (ix2 s (brow i k)) := by
    intro k
    rw [off_val _ _ hi k.isLt, Finset.sum_eq_single (brow i k)]
    · rw [if_pos (show BitVec.ofNat 32 (brow i k).val = BitVec.ofNat 32 (2 * (i 0).val + k.val) from rfl), mul_one]
    · intro b _ hb
      rw [if_neg, mul_zero]
      intro hh
      apply hb
      have h2 := congrArg BitVec.toNat hh
      simp at h2
      apply Fin.ext
      show b.val = 2 * (i 0).val + k.val
      omega
    · intro hb
      exact absurd (Finset.mem_univ _) hb
  unfold outs
  refine (read_band v f 1 0 2048 _ _ _ a s h).trans ?_
  rw [read_band v f 0 0 2048 inb_S2x2048x512_S1x2048x512_0_0_0
    (k0_pay53 (iota Kind.tc S1x64 32 [1] iota_S1x64_d1_w32) ppg
        (Scalar.addi (Scalar.muli (BitVec.ofNat 32 ↑(i 0)) 2#32) 0#32) (l 0) (q 0) rt) _ a s h]
  match a with
  | ⟨0, _⟩ =>
    rw [dif_neg (fun hh => absurd hh.1 Nat.zero_ne_one), dif_pos ⟨rfl, Nat.zero_le _, by omega⟩]
    refine (pay53 ppg _ (l 0) (q 0) rt 0 ⟨s.val - 0, by omega⟩ h).trans ?_
    rw [show (⟨s.val - 0, by omega⟩ : Fin 2048) = s from Fin.ext (by simp)]
    exact congrArg (fun z => _ + ppg (ix2 s h) * z) (pick 0)
  | ⟨1, _⟩ =>
    rw [dif_pos ⟨rfl, Nat.zero_le _, by omega⟩]
    refine (pay58 ppg _ (l 1) (q 1) rt 0 ⟨s.val - 0, by omega⟩ h).trans ?_
    rw [show (⟨s.val - 0, by omega⟩ : Fin 2048) = s from Fin.ext (by simp)]
    exact congrArg (fun z => _ + ppg (ix2 s h) * z) (pick 1)

end Cert.KernelIdeal.Step
-- ==== Proof.InitPays.lean ====
module

public import proofs.«01_k».proof.Proof.Pays

@[expose] public section

set_option maxRecDepth 16384

noncomputable section

open Idealize.ShloMosaic Idealize.ShloMosaic.TcCoe Idealize.SL.Sem

/-! # What the first grid point keeps, entry by entry -/

namespace Cert.KernelIdeal.Step.Mats

open Cert.KernelIdeal Cert.KernelIdeal.Gen Cert.KernelIdeal.Pays

/-- The choice by token: entries 1 to 5 by their number, entry 0 otherwise. -/
def pick {α : Type} (t : BitVec 32) (f : Fin 8 → α) : α :=
  if t = 5#32 then f 5 else if t = 4#32 then f 4 else if t = 3#32 then f 3 else if t = 2#32 then f 2
    else if t = 1#32 then f 1 else f 0

variable (M : Mats Ideal)

/-- Projected position rows. -/
def pp : FVec Ideal S2048x512 .f32 := k0_pay9 (k0_pay4 M.W) M.P

theorem tp_apply (i : Fin 8) (h : Fin 512) :
    M.tp (ix2 i h) = ∑ k : Fin 128, (M.T (ix2 i k) : EReal) * M.W (ix2 h k) := by
  pointwise [tp, k0_pay5, k0_pay4]

theorem pp_apply (s : Fin 2048) (h : Fin 512) :
    M.pp (ix2 s h) = ∑ k : Fin 128, (M.P (ix2 s k) : EReal) * M.W (ix2 h k) := by
  pointwise [pp, k0_pay9, k0_pay4]

theorem eh_apply (b : Fin 64) (h : Fin 512) :
    M.eh (ix2 b h) = (∑ k : Fin 64, ((∑ l : Fin 128, (M.E (ix2 b l) : EReal) * M.EW (ix2 k l)) + M.EB (ix2 0 k))
        * M.EP (ix2 h k)) + M.B0 (ix2 0 h) := by
  pointwise [eh, k0_pay7]

theorem ehg_apply (b : Fin 64) (h : Fin 512) : M.ehg (ix2 b h) = (M.eh (ix2 b h) : EReal) * M.gam (ix2 0 h) := by
  show k0_pay8 _ _ _ _ _ _ _ = _
  pointwise [k0_pay8, k0_pay2]
  rfl

theorem ppg_apply (s : Fin 2048) (h : Fin 512) : M.ppg (ix2 s h) = (M.pp (ix2 s h) : EReal) * M.gam (ix2 0 h) := by
  show k0_pay10 _ _ _ _ = _
  pointwise [k0_pay10, k0_pay2]
  rfl

theorem r_apply (b : Fin 64) (s : Fin 2048) :
    M.r (ix2 b s) = Ideal.rsqrt ((M.ss (ix2 b s) : EReal) * Ideal.ofBits .f32 0x3B000000#32
      - M.mu (ix2 b s) * M.mu (ix2 b s) + Ideal.ofBits .f32 0x3727C5AC#32) := by
  pointwise [r, k0_pay31, k0_pay30]

theorem mr_apply (b : Fin 64) (s : Fin 2048) : M.mr (ix2 b s) = (M.mu (ix2 b s) : EReal) * M.r (ix2 b s) := by
  pointwise [mr, r, k0_pay32, k0_pay31, k0_pay30]

theorem rt_apply (s : Fin 2048) (b : Fin 64) : M.rt (ix2 s b) = M.r (ix2 b s) := by
  pointwise [rt, r, k0_pay33, k0_pay31, k0_pay30]

theorem mu_apply (b : Fin 64) (s : Fin 2048) :
    M.mu (ix2 b s) = pick (M.tok (ix2 b s)) (fun i => Ideal.div (∑ h : Fin 512, (M.tp (ix2 i h) : EReal)) (Ideal.ofBits .f32 0x44000000#32))
      + Ideal.div (∑ h : Fin 512, (M.eh (ix2 b h) : EReal)) (Ideal.ofBits .f32 0x44000000#32)
      + (∑ h : Fin 512, (1 : EReal) * M.pp (ix2 s h)) * Ideal.ofBits .f32 0x3B000000#32 := by
  pointwise [mu, m1, m2, m3, m4, m5, k0_pay25, k0_pay15, k0_pay14, k0_pay17, k0_pay19, k0_pay20, k0_pay21, k0_pay22, k0_pay23, k0_pay24]
  simp only [select_eq]
  rfl

theorem ss_apply (b : Fin 64) (s : Fin 2048) :
    M.ss (ix2 b s) = pick (M.tok (ix2 b s)) (fun i => ∑ h : Fin 512, (M.tp (ix2 i h) : EReal) * M.tp (ix2 i h))
      + Ideal.ofBits .f32 0x40000000#32 * pick (M.tok (ix2 b s)) (fun i => ∑ h : Fin 512, (M.tp (ix2 i h) : EReal) * M.pp (ix2 s h))
      + Ideal.ofBits .f32 0x40000000#32 * pick (M.tok (ix2 b s)) (fun i => ∑ h : Fin 512, (M.eh (ix2 b h) : EReal) * M.tp (ix2 i h))
      + (∑ h : Fin 512, (M.eh (ix2 b h) : EReal) * M.eh (ix2 b h))
      + (∑ h : Fin 512, (1 : EReal) * ((M.pp (ix2 s h) : EReal) * M.pp (ix2 s h)))
      + Ideal.ofBits .f32 0x40000000#32 * ∑ h : Fin 512, (M.eh (ix2 b h) : EReal) * M.pp (ix2 s h) := by
  pointwise [ss, m1, m2, m3, m4, m5, g1, k0_pay29, k0_pay11, k0_pay12, k0_pay13, k0_pay14, k0_pay16, k0_pay18, k0_pay19, k0_pay20, k0_pay21, k0_pay22, k0_pay23, k0_pay26, k0_pay27, k0_pay28]
  simp only [select_eq]
  rfl

end Cert.KernelIdeal.Step.Mats
-- ==== Proof.Block.lean ====
module

public import proofs.«01_k».proof.Proof.StepValue
public import proofs.«01_k».proof.Proof.InitPays

@[expose] public section

set_option maxRecDepth 16384

noncomputable section

open Idealize.ShloMosaic Idealize.ShloMosaic.TcCoe Idealize.SL.Sem

/-! # The result block of a grid point, entry by entry -/

namespace Cert.KernelIdeal.Step

open Cert.KernelIdeal Cert.KernelIdeal.Gen Cert.KernelIdeal.Bands Cert.KernelIdeal.Pays

/-- An entry of a right factor off the row that changes: scaled table rows, minus the scale, the shift, zeros. -/
def rightBase (y : Fin 8 → EReal) (g be : EReal) (b : ℕ) : EReal :=
  if h : b < 8 then y ⟨b, h⟩ * g else if b = 8 then 0 - g else if b = 9 then be else 0

/-- The left factors' rows that no grid point but the first stores: ones and zeros. -/
def LeftOK (l : Vec Ideal S2x16x2048 .f32) : Prop :=
  ∀ (a : Fin 2) (b : Fin 16) (s : Fin 2048), 9 ≤ b.val → b.val ≠ 10 → l (ix3 a b s) = if b.val = 9 then (1 : EReal) else 0

/-- The right factors' rows that no grid point but the first stores. -/
def RightOK (M : Mats Ideal) (q : Vec Ideal S2x16x512 .f32) : Prop :=
  ∀ (a : Fin 2) (b : Fin 16) (h : Fin 512), b.val ≠ 10 →
    q (ix3 a b h) = rightBase (fun i => M.tp (ix2 i h)) (M.gam (ix2 0 h)) (M.bet (ix2 0 h)) b.val

/-- An entry of the result, from the values that meet in it. -/
def resultAt (t : BitVec 32) (m r x : EReal) (y : Fin 8 → EReal) (g be pg rv : EReal) : EReal :=
  (∑ k : Fin 16, leftAt t m r k.val (if k.val = 9 then 1 else 0) * rightAt x k.val (rightBase y g be k.val)) + pg * rv

theorem leftAt_base (t : BitVec 32) (m r x y : EReal) (b : ℕ) (h : 9 ≤ b → b ≠ 10 → x = y) :
    leftAt t m r b x = leftAt t m r b y := by
  unfold leftAt
  split_ifs with h1 h2 h3 h4
  all_goals first | rfl | exact h (by omega) (by omega)

theorem rightAt_base (z x y : EReal) (b : ℕ) (h : b ≠ 10 → x = y) : rightAt z b x = rightAt z b y := by
  unfold rightAt
  split_ifs with h1
  · rfl
  · exact h h1

section Step

variable (M : Mats Ideal) (i : grid0.Coords)
  (v1 : View sig .tc .vmem S64x2048 .i32) (f1 : v1.ty.Contents (Elt Ideal))
  (v6 : View sig .tc .vmem S64x512 .f32) (f6 : v6.ty.Contents (Elt Ideal))
  (v7 : View sig .tc .vmem S2048x512 .f32) (f7 : v7.ty.Contents (Elt Ideal))
  (v8 : View sig .tc .vmem S64x2048 .f32) (f8 : v8.ty.Contents (Elt Ideal))
  (v9 : View sig .tc .vmem S64x2048 .f32) (f9 : v9.ty.Contents (Elt Ideal))
  (v10 : View sig .tc .vmem S2048x64 .f32) (f10 : v10.ty.Contents (Elt Ideal))
  (v11 : View sig .tc .vmem S2x16x2048 .f32) (f11 : v11.ty.Contents (Elt Ideal)) (L11 : List (View.Piece (Elt Ideal) S2x16x2048 .f32))
  (v12 : View sig .tc .vmem S2x16x512 .f32) (f12 : v12.ty.Contents (Elt Ideal)) (L12 : List (View.Piece (Elt Ideal) S2x16x512 .f32))

/-- The left factors' fixed rows survive a grid point. -/
theorem leftOK_step (w : View sig .tc .vmem S2x16x2048 .f32) (f : w.ty.Contents (Elt Ideal))
    (hl : LeftOK (w.read (Elt Ideal) (w.writes (Elt Ideal) f L11)))
    (t t' : Vec Ideal S1x2048 .i32) (m m' r r' : Vec Ideal S1x2048 .f32) :
    LeftOK (w.read (Elt Ideal) (w.writes (Elt Ideal) f (lhs1 t' m' r' r' (lhs0 t m r r L11)))) := by
  intro a b s h9 h10
  rw [read_lhs1, read_lhs0]
  have keep : ∀ (z : BitVec 32) (x y w' : EReal), leftAt z x y b.val w' = w' := by
    intro z x y w'
    unfold leftAt
    rw [if_neg (by omega), if_neg (by omega), if_neg h10]
  simp only [keep, ite_self]
  exact hl a b s h9 h10

/-- The right factors' fixed rows survive a grid point. -/
theorem rightOK_step (w : View sig .tc .vmem S2x16x512 .f32) (f : w.ty.Contents (Elt Ideal))
    (hq : RightOK M (w.read (Elt Ideal) (w.writes (Elt Ideal) f L12))) (x x' : Vec Ideal S1x512 .f32) :
    RightOK M (w.read (Elt Ideal) (w.writes (Elt Ideal) f (rhs1 x' (rhs0 x L12)))) := by
  intro a b h h10
  rw [read_rhs1, read_rhs0]
  have keep : ∀ (x w' : EReal), rightAt x b.val w' = w' := by
    intro x w'
    unfold rightAt
    rw [if_neg h10]
  simp only [keep, ite_self]
  exact hq a b h h10

/-- The result block, entry by entry. -/
theorem read_block (vo : View sig .tc .vmem S2x2048x512 .f32) (fo : vo.ty.Contents (Elt Ideal))
    (hl : LeftOK (v11.read (Elt Ideal) (v11.writes (Elt Ideal) f11 L11)))
    (hq : RightOK M (v12.read (Elt Ideal) (v12.writes (Elt Ideal) f12 L12)))
    (a : Fin 2) (s : Fin 2048) (h : Fin 512) :
    vo.read (Elt Ideal) (vo.writes (Elt Ideal) fo (block i v1 f1 v6 f6 v7 f7 v8 f8 v9 f9 v10 f10 v11 f11 L11 v12 f12 L12)) (ix3 a s h)
      = resultAt (v1.read (Elt Ideal) f1 (ix2 (brow i a) s)) (v8.read (Elt Ideal) f8 (ix2 (brow i a) s))
          (v9.read (Elt Ideal) f9 (ix2 (brow i a) s)) (v6.read (Elt Ideal) f6 (ix2 (brow i a) h))
          (fun j => M.tp (ix2 j h)) (M.gam (ix2 0 h)) (M.bet (ix2 0 h))
          (v7.read (Elt Ideal) f7 (ix2 s h)) (v10.read (Elt Ideal) f10 (ix2 s (brow i a))) := by
  unfold block
  refine (read_outs vo fo i _ _
    ![View.readAt (Elt Ideal) v11 (Rect.unit (s := S2x16x2048) ![0, 0, 0] S1x16x2048.size inb_S2x16x2048_S1x16x2048_0_0_0).toLoadRect
      (v11.writes (Elt Ideal) f11 (lhs0 (ldRow i 0 v1 f1) (ldRow i 0 v8 f8) (ldRow i 0 v9 f9) (ldRow i 0 v9 f9) L11)),
    View.readAt (Elt Ideal) v11 (Rect.unit (s := S2x16x2048) ![1, 0, 0] S1x16x2048.size inb_S2x16x2048_S1x16x2048_1_0_0).toLoadRect
      (v11.writes (Elt Ideal) f11 (lhs1 (ldRow i 1 v1 f1) (ldRow i 1 v8 f8) (ldRow i 1 v9 f9) (ldRow i 1 v9 f9)
        (lhs0 (ldRow i 0 v1 f1) (ldRow i 0 v8 f8) (ldRow i 0 v9 f9) (ldRow i 0 v9 f9) L11)))]
    ![View.readAt (Elt Ideal) v12 (Rect.unit (s := S2x16x512) ![0, 0, 0] S1x16x512.size inb_S2x16x512_S1x16x512_0_0_0).toLoadRect
      (v12.writes (Elt Ideal) f12 (rhs0 (ldRow' i 0 v6 f6) L12)),
    View.readAt (Elt Ideal) v12 (Rect.unit (s := S2x16x512) ![1, 0, 0] S1x16x512.size inb_S2x16x512_S1x16x512_1_0_0).toLoadRect
      (v12.writes (Elt Ideal) f12 (rhs1 (ldRow' i 1 v6 f6) (rhs0 (ldRow' i 0 v6 f6) L12)))]
    a s h).trans ?_
  unfold resultAt
  have e7 : View.readAt (Elt Ideal) v7 (Rect.unit ![0, 0] S2048x512.size inb_S2048x512_S2048x512_0_0).toLoadRect f7
      = v7.read (Elt Ideal) f7 := readAt_whole v7 f7 _
  have e10 : View.readAt (Elt Ideal) v10 (Rect.unit ![0, 0] S2048x64.size inb_S2048x64_S2048x64_0_0).toLoadRect f10
      = v10.read (Elt Ideal) f10 := readAt_whole v10 f10 _
  rw [e7, e10]
  refine congrArg (· + _) (Finset.sum_congr rfl fun k _ => ?_)
  match a with
  | ⟨0, _⟩ =>
    refine congrArg₂ (· * ·) ?_ ?_
    · refine (readAt_mat v11 _ (0 : Fin 2) inb_S2x16x2048_S1x16x2048_0_0_0 0 k s).trans ?_
      rw [read_lhs0, if_pos rfl, ldRow_apply, ldRow_apply, ldRow_apply]
      exact leftAt_base _ _ _ _ _ _ (hl 0 k s)
    · refine (readAt_mat v12 _ (0 : Fin 2) inb_S2x16x512_S1x16x512_0_0_0 0 k h).trans ?_
      rw [read_rhs0, if_pos rfl, ldRow'_apply]
      exact rightAt_base _ _ _ _ (hq 0 k h)
  | ⟨1, _⟩ =>
    refine congrArg₂ (· * ·) ?_ ?_
    · refine (readAt_mat v11 _ (1 : Fin 2) inb_S2x16x2048_S1x16x2048_1_0_0 0 k s).trans ?_
      rw [read_lhs1, if_pos rfl, read_lhs0, if_neg (by decide), ldRow_apply, ldRow_apply, ldRow_apply]
      exact leftAt_base _ _ _ _ _ _ (hl 1 k s)
    · refine (readAt_mat v12 _ (1 : Fin 2) inb_S2x16x512_S1x16x512_1_0_0 0 k h).trans ?_
      rw [read_rhs1, if_pos rfl, read_rhs0, if_neg (by decide), ldRow'_apply]
      exact rightAt_base _ _ _ _ (hq 1 k h)

end Step

/-- What the first grid point stores into the left factors leaves the ones and the zeros. -/
theorem leftOK_first (v : View sig .tc .vmem S2x16x2048 .f32) (f : v.ty.Contents (Elt Ideal)) :
    LeftOK (v.read (Elt Ideal) (v.writes (Elt Ideal) f Mats.left)) := by
  intro a b s h9 h10
  unfold Mats.left
  refine (read_band v f 1 9 1 _ _ _ a b s).trans ?_
  rw [read_band v f 1 8 8 inb_S2x16x2048_S1x8x2048_1_8_0 (k0_pay47 (F := Ideal) (k0_pay46 (F := Ideal))) _ a b s]
  rw [read_band v f 0 9 1 inb_S2x16x2048_S1x1x2048_0_9_0 (k0_pay41 (F := Ideal)) _ a b s]
  rw [read_band v f 0 8 8 inb_S2x16x2048_S1x8x2048_0_8_0 (k0_pay40 (F := Ideal)) _ a b s]
  have hb := b.isLt
  rcases (show a.val = 0 ∨ a.val = 1 by omega) with ha | ha
  · by_cases hb9 : b.val = 9
    · rw [dif_neg (by omega), dif_neg (by omega), dif_pos (by omega), if_pos hb9]
      exact pay41 _ _ _
    · rw [dif_neg (by omega), dif_neg (by omega), dif_neg (by omega), dif_pos (by omega), if_neg hb9]
      exact pay40 _ _ _
  · by_cases hb9 : b.val = 9
    · rw [dif_pos (by omega), if_pos hb9]
      exact pay48 _ _ _
    · rw [dif_neg (by omega), dif_pos (by omega), if_neg hb9]
      exact pay47 _ _ _

/-- What the first grid point stores into the right factors leaves the scaled table, minus the scale, the shift and the
zeros. -/
theorem rightOK_first (M : Mats Ideal) (v : View sig .tc .vmem S2x16x512 .f32) (f : v.ty.Contents (Elt Ideal)) :
    RightOK M (v.read (Elt Ideal) (v.writes (Elt Ideal) f M.right)) := by
  intro a b h h10
  unfold Mats.right
  refine (read_band v f 1 10 6 _ _ _ a b h).trans ?_
  rw [read_band v f 1 9 1 inb_S2x16x512_S1x1x512_1_9_0 (k0_pay44 (k0_pay3 M.bet)) _ a b h]
  rw [read_band v f 1 8 1 inb_S2x16x512_S1x1x512_1_8_0 (k0_pay43 (k0_pay2 M.gam)) _ a b h]
  rw [read_band v f 1 0 8 inb_S2x16x512_S1x8x512_1_0_0 (k0_pay42 (k0_pay34 (k0_pay2 M.gam) M.tp)) _ a b h]
  rw [read_band v f 0 10 6 inb_S2x16x512_S1x6x512_0_10_0 (k0_pay39 (F := Ideal) (k0_pay38 (F := Ideal))) _ a b h]
  rw [read_band v f 0 9 1 inb_S2x16x512_S1x1x512_0_9_0 (k0_pay37 (k0_pay3 M.bet)) _ a b h]
  rw [read_band v f 0 8 1 inb_S2x16x512_S1x1x512_0_8_0 (k0_pay36 (k0_pay2 M.gam)) _ a b h]
  rw [read_band v f 0 0 8 inb_S2x16x512_S1x8x512_0_0_0 (k0_pay35 (k0_pay2 M.gam) M.tp) _ a b h]
  have hb := b.isLt
  unfold rightBase
  rcases (show a.val = 0 ∨ a.val = 1 by omega) with ha | ha
  · by_cases hb8 : b.val < 8
    · rw [dif_neg (by omega), dif_neg (by omega), dif_neg (by omega), dif_neg (by omega), dif_neg (by omega), dif_neg (by omega),
        dif_neg (by omega), dif_pos (by omega), dif_pos hb8]
      exact pay35 _ _ _ _ _
    · rw [dif_neg hb8]
      by_cases hb8' : b.val = 8
      · rw [dif_neg (by omega), dif_neg (by omega), dif_neg (by omega), dif_neg (by omega), dif_neg (by omega), dif_neg (by omega),
          dif_pos (by omega), if_pos hb8']
        exact pay36 _ _ _ _
      · rw [if_neg hb8']
        by_cases hb9 : b.val = 9
        · rw [dif_neg (by omega), dif_neg (by omega), dif_neg (by omega), dif_neg (by omega), dif_neg (by omega),
            dif_pos (by omega), if_pos hb9]
          exact pay37 _ _ _ _
        · rw [dif_neg (by omega), dif_neg (by omega), dif_neg (by omega), dif_neg (by omega), dif_pos (by omega), if_neg hb9]
          exact pay39 _ _ _
  · by_cases hb8 : b.val < 8
    · rw [dif_neg (by omega), dif_neg (by omega), dif_neg (by omega), dif_pos (by omega), dif_pos hb8]
      exact pay42 _ _ _ _ _
    · rw [dif_neg hb8]
      by_cases hb8' : b.val = 8
      · rw [dif_neg (by omega), dif_neg (by omega), dif_pos (by omega), if_pos hb8']
        exact pay43 _ _ _ _
      · rw [if_neg hb8']
        by_cases hb9 : b.val = 9
        · rw [dif_neg (by omega), dif_pos (by omega), if_pos hb9]
          exact pay44 _ _ _ _
        · rw [dif_pos (by omega), if_neg hb9]
          exact pay45 _ _ _

end Cert.KernelIdeal.Step
-- ==== Proof.Sweep.lean ====
module

public import proofs.«01_k».proof.Proof.Cases
public import proofs.«01_k».proof.Proof.Block

@[expose] public section

set_option maxRecDepth 16384

noncomputable section

open Idealize.ShloMosaic Idealize.ShloMosaic.TcCoe Idealize.SL.Sem

/-! # What every grid point leaves behind -/

namespace Cert.KernelIdeal.Step

open Cert.KernelIdeal Cert.KernelIdeal.Gen Cert.KernelIdeal.Bands

/-- What is held after a grid point: the kept matrices are the first point's, and the result block is `resultAt`. -/
structure Holds (M : Mats Ideal) (i : grid0.Coords)
    (o : Vec Ideal S2x2048x512 .f32 × Vec Ideal S64x512 .f32 × Vec Ideal S2048x512 .f32 × Vec Ideal S64x2048 .f32
      × Vec Ideal S64x2048 .f32 × Vec Ideal S2048x64 .f32 × Vec Ideal S2x16x2048 .f32 × Vec Ideal S2x16x512 .f32) : Prop where
  /-- scaled expression rows -/
  ehg : o.2.1 = M.ehg
  /-- scaled position rows -/
  ppg : o.2.2.1 = M.ppg
  /-- means times reciprocal deviations -/
  mr : o.2.2.2.1 = M.mr
  /-- reciprocal deviations -/
  r : o.2.2.2.2.1 = M.r
  /-- reciprocal deviations, transposed -/
  rt : o.2.2.2.2.2.1 = M.rt
  /-- left factors -/
  left : LeftOK o.2.2.2.2.2.2.1
  /-- right factors -/
  right : RightOK M o.2.2.2.2.2.2.2
  /-- result block -/
  out : ∀ (a : Fin 2) (s : Fin 2048) (h : Fin 512), o.1 (ix3 a s h)
    = resultAt (M.tok (ix2 (brow i a) s)) (M.mr (ix2 (brow i a) s)) (M.r (ix2 (brow i a) s)) (M.ehg (ix2 (brow i a) h))
        (fun j => M.tp (ix2 j h)) (M.gam (ix2 0 h)) (M.bet (ix2 0 h)) (M.ppg (ix2 s h)) (M.rt (ix2 s (brow i a)))

variable (m : (ℓ : Loc nD τ sig) → Buf (Elt Ideal) ℓ)

/-- One whole-matrix store, whatever it is stored into, holds the matrix. -/
theorem canon_whole {R W : ℕ} (v : View sig .tc .vmem ⟨2, ![R, W]⟩ .f32) (inb) (w : Vec Ideal ⟨2, ![R, W]⟩ .f32) :
    View.canon (e := .f32) (Val := Elt Ideal) [⟨Rect.unit (s := ⟨2, ![R, W]⟩) ![0, 0] ![R, W] inb, w⟩] = w := by
  rw [← View.read_writes_junk_eq_canon v]
  exact read_whole v _ _ _ _

set_option maxHeartbeats 2000000 in
/-- After the first grid point. -/
theorem holds_first (c : Dev nD) (t : Fin cfg0.N) (h0 : t.val % 32 = 0) :
    Holds (mats (iblk m c 0 t) (iblk m c 1 t) (iblk m c 2 t)) (grid0.coords t) (outsAt0 m c t.val t.isLt) := by
  have hM : ldMats (ms0_0 t).view ((hs0_0 t).unread (iblk m c 0 t)) (ms0_1 t).view ((hs0_1 t).unread (iblk m c 1 t))
      (ms0_2 t).view ((hs0_2 t).unread (iblk m c 2 t)) = mats (iblk m c 0 t) (iblk m c 1 t) (iblk m c 2 t) := by
    rw [ldMats_eq, Memref.IsWhole.read_unread, Memref.IsWhole.read_unread, Memref.IsWhole.read_unread]
  rw [outsAt0_A m c t h0]
  constructor
  · dsimp only
    rw [ehg_first, hM]; exact canon_whole scM0_1.view _ _
  · dsimp only
    rw [ppg_first, hM]; exact canon_whole scM0_2.view _ _
  · dsimp only
    rw [mr_first, hM]; exact canon_whole scM0_3.view _ _
  · dsimp only
    rw [r_first, hM]; exact canon_whole scM0_4.view _ _
  · dsimp only
    rw [rt_first, hM]; exact canon_whole scM0_5.view _ _
  · dsimp only
    rw [left_first, ← View.read_writes_junk_eq_canon scM0_6.view]
    exact leftOK_step _ _ _ (leftOK_first _ _) _ _ _ _ _ _
  · dsimp only
    rw [right_first, hM, ← View.read_writes_junk_eq_canon scM0_7.view]
    exact rightOK_step _ _ _ _ (rightOK_first _ _ _) _ _
  · intro a s h
    dsimp only
    rw [out_first, hM, ← View.read_writes_junk_eq_canon VO0_3]
    refine (read_block (mats (iblk m c 0 t) (iblk m c 1 t) (iblk m c 2 t)) _ _ _ _ _ _ _ _ _ _ _ _ _ _ _ _ _ _ _ _ _
      (leftOK_first _ _) (rightOK_first _ _ _) a s h).trans ?_
    rw [Memref.IsWhole.read_unread, read_whole, read_whole, read_whole, read_whole, read_whole]
    rfl

/-- After a later grid point. -/
theorem holds_later (c : Dev nD) (t : Fin cfg0.N) (h0 : ¬t.val % 32 = 0) (M : Mats Ideal) (i : grid0.Coords)
    (hM : M.tok = iblk m c 0 t)
    (hp : Holds M i (outsAt0 m c (t.val - 1) (by have := t.isLt; omega))) :
    Holds M (grid0.coords t) (outsAt0 m c t.val t.isLt) := by
  rw [outsAt0_B m c t h0]
  constructor
  · exact hp.ehg
  · exact hp.ppg
  · exact hp.mr
  · exact hp.r
  · exact hp.rt
  · dsimp only
    rw [left_later]
    refine leftOK_step _ _ _ ?_ _ _ _ _ _ _
    rw [View.writes_nil, Memref.IsWhole.read_unread]
    exact hp.left
  · dsimp only
    rw [right_later]
    refine rightOK_step _ _ _ _ ?_ _ _
    rw [View.writes_nil, Memref.IsWhole.read_unread]
    exact hp.right
  · intro a s h
    dsimp only
    rw [out_later, ← View.read_writes_junk_eq_canon VO0_3]
    refine (read_block M _ _ _ _ _ _ _ _ _ _ _ _ _ _ _ _ _ _ _ _ _ ?_ ?_ a s h).trans ?_
    · rw [View.writes_nil, Memref.IsWhole.read_unread]; exact hp.left
    · rw [View.writes_nil, Memref.IsWhole.read_unread]; exact hp.right
    · rw [Memref.IsWhole.read_unread, Memref.IsWhole.read_unread, Memref.IsWhole.read_unread, Memref.IsWhole.read_unread,
        Memref.IsWhole.read_unread, Memref.IsWhole.read_unread, hp.ehg, hp.ppg, hp.mr, hp.r, hp.rt, hM]

/-- The matrices the first grid point loads, as the operands hold them. -/
def held (c : Dev nD) : Mats Ideal := mats (V m c main_arg0) (V m c main_v4) (V m c main_v11)

theorem iblk0 (c : Dev nD) (t : Fin cfg0.N) : iblk m c 0 t = V m c main_arg0 := by
  funext y
  refine congrArg (V m c main_arg0) (funext fun a => Fin.ext ?_)
  exact Pipeline.Window.rect_emb_val_of_index_zero win0_0 t a (by match a with | ⟨0, _⟩ => rfl | ⟨1, _⟩ => rfl) y

theorem iblk1 (c : Dev nD) (t : Fin cfg0.N) : iblk m c 1 t = V m c main_v4 := by
  funext y
  refine congrArg (V m c main_v4) (funext fun a => Fin.ext ?_)
  exact Pipeline.Window.rect_emb_val_of_index_zero win0_1 t a (by match a with | ⟨0, _⟩ => rfl | ⟨1, _⟩ => rfl) y

theorem iblk2 (c : Dev nD) (t : Fin cfg0.N) : iblk m c 2 t = V m c main_v11 := by
  funext y
  refine congrArg (V m c main_v11) (funext fun a => Fin.ext ?_)
  exact Pipeline.Window.rect_emb_val_of_index_zero win0_2 t a (by match a with | ⟨0, _⟩ => rfl | ⟨1, _⟩ => rfl) y

/-- After every grid point. -/
theorem holds (c : Dev nD) : ∀ (n : ℕ) (hn : n < cfg0.N), Holds (held m c) (grid0.coords ⟨n, hn⟩) (outsAt0 m c n hn)
  | 0, hn => by
    have h := holds_first m c ⟨0, hn⟩ rfl
    rw [iblk0, iblk1, iblk2] at h
    exact h
  | n + 1, hn => by
    have hN : n + 1 < 32 := hn
    exact holds_later m c ⟨n + 1, hn⟩ (by show ¬ (n + 1) % 32 = 0; omega) (held m c) _ (iblk0 m c _).symm
      (holds c n (Nat.lt_of_succ_lt hn))

/-- The row of the batch that grid point `t` has at place `a`. -/
theorem brow_val (t : Fin cfg0.N) (a : Fin 2) : (brow (grid0.coords t) a).val = 2 * t.val + a.val := by
  have h : ((grid0.coords t) 0).val = t.val := by
    revert t; exact (by decide +kernel : ∀ t : Fin grid0.N, ((grid0.coords t) 0).val = t.val)
  unfold brow
  simp [h]

/-- The array the run leaves in the result, entry by entry. -/
theorem result_apply (c : Dev nD) (b : Fin 64) (s : Fin 2048) (h : Fin 512) :
    Value.G3 m c (ix3 b s h)
      = resultAt ((held m c).tok (ix2 b s)) ((held m c).mr (ix2 b s)) ((held m c).r (ix2 b s)) ((held m c).ehg (ix2 b h))
          (fun j => (held m c).tp (ix2 j h)) ((held m c).gam (ix2 0 h)) ((held m c).bet (ix2 0 h))
          ((held m c).ppg (ix2 s h)) ((held m c).rt (ix2 s b)) := by
  have hb := b.isLt
  have hp : Value.pt3Of (ix3 b s h) = b.val / 2 := by
    have h1 := s.isLt
    have h2 := h.isLt
    show 1 * (b.val / 2 - 0) + 1 * (s.val / 2048 - 0) + 1 * (h.val / 512 - 0) = _
    omega
  have hlt : b.val / 2 < cfg0.N := by show _ < 32; omega
  have hl : Value.loc3Of (ix3 b s h) = ix3 (⟨b.val % 2, Nat.mod_lt _ (by decide)⟩ : Fin 2) s h := by
    funext a
    match a with
    | ⟨0, _⟩ => exact Fin.ext rfl
    | ⟨1, _⟩ => exact Fin.ext (Nat.mod_eq_of_lt s.isLt)
    | ⟨2, _⟩ => exact Fin.ext (Nat.mod_eq_of_lt h.isLt)
  have hr : brow (grid0.coords ⟨b.val / 2, hlt⟩) (⟨b.val % 2, Nat.mod_lt _ (by decide)⟩ : Fin 2) = b := by
    apply Fin.ext
    rw [brow_val]
    show 2 * (b.val / 2) + b.val % 2 = b.val
    omega
  have key := (holds m c (b.val / 2) hlt).out ⟨b.val % 2, Nat.mod_lt _ (by decide)⟩ s h
  rw [hr] at key
  unfold Value.G3
  rw [dif_pos (by rw [hp]; exact hlt), hl, Value.fold0_congr m c _ _ _ (by rw [Nat.zero_add]; exact hlt) hp, ← Value.outsAt0_sweep m c _ hlt]
  exact key

end Cert.KernelIdeal.Step
-- ==== Proof.Host.lean ====
module

public import proofs.«01_k».proof.Proof.Sweep

@[expose] public section

set_option maxRecDepth 16384

noncomputable section

open Idealize.ShloMosaic Idealize.ShloMosaic.TcCoe Idealize.SL.Sem

/-! # The operands the host packs before the grid runs -/

namespace Cert.KernelIdeal.Step

open Cert.KernelIdeal Cert.KernelIdeal.Gen Cert.KernelIdeal.Bands

/-- The word zero as a scalar number: what the host pads with. -/
def filler : FVec Ideal S_ .f32 := sitofp .f32 (constantI S_ 32 0#32)

/-- The packed weights. -/
def packW (T : FVec Ideal S6x128 .f32) (W : FVec Ideal S512x128 .f32) (E EW : FVec Ideal S64x40 .f32)
    (EP : FVec Ideal S512x64 .f32) (P : FVec Ideal S2048x128 .f32) : FVec Ideal S3208x128 .f32 :=
  concatenate S3208x128 0 [⟨S8x128, pad S8x128 ![0, 0] ![2, 0] ![0, 0] T filler pads_S6x128_S8x128_020_000 h_S_⟩, ⟨S512x128, W⟩,
    ⟨S64x128, pad S64x128 ![0, 0] ![0, 88] ![0, 0] E filler pads_S64x40_S64x128_000_0880 h_S_⟩,
    ⟨S64x128, pad S64x128 ![0, 0] ![0, 88] ![0, 0] EW filler pads_S64x40_S64x128_000_0880 h_S_⟩,
    ⟨S512x128, pad S512x128 ![0, 0] ![0, 64] ![0, 0] EP filler pads_S512x64_S512x128_000_0640 h_S_⟩, ⟨S2048x128, P⟩]
    concatenates_S8x128_S512x128_S64x128_S64x128_S512x128_S2048x128_S3208x128_d0

/-- The packed vectors. -/
def packV (b9 b7 g be : FVec Ideal S512 .f32) (eb : FVec Ideal S64 .f32) : FVec Ideal S4x512 .f32 :=
  concatenate S4x512 0 [⟨S1x512, broadcastInDim S1x512 ![1] bcast_S512_S1x512_1 (addf b9 b7)⟩,
    ⟨S1x512, broadcastInDim S1x512 ![1] bcast_S512_S1x512_1 g⟩, ⟨S1x512, broadcastInDim S1x512 ![1] bcast_S512_S1x512_1 be⟩,
    ⟨S1x512, broadcastInDim S1x512 ![1] bcast_S512_S1x512_1 (pad S512 ![0] ![448] ![0] eb filler pads_S64_S512_04480 h_S_)⟩]
    concatenates_S1x512_S1x512_S1x512_S1x512_S4x512_d0

variable (m : (ℓ : Loc nD τ sig) → Buf (Elt Ideal) ℓ)

theorem V_weights (c : Dev nD) : V m c main_v4 = packW (m ((c : Thread nD τ).loc main_arg2)) (m ((c : Thread nD τ).loc main_arg6))
    (m ((c : Thread nD τ).loc main_arg1)) (m ((c : Thread nD τ).loc main_arg4)) (m ((c : Thread nD τ).loc main_arg8))
    (m ((c : Thread nD τ).loc main_arg3)) := by
  unfold V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results
  rfl

theorem V_vectors (c : Dev nD) : V m c main_v11 = packV (m ((c : Thread nD τ).loc main_arg9)) (m ((c : Thread nD τ).loc main_arg7))
    (m ((c : Thread nD τ).loc main_arg10)) (m ((c : Thread nD τ).loc main_arg11)) (m ((c : Thread nD τ).loc main_arg5)) := by
  unfold V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results
  rfl

end Cert.KernelIdeal.Step
-- ==== Proof.Packed.lean ====
module

public import proofs.«01_k».proof.Proof.Host
public import Idealize.ShloMosaic.Lib.Pointwise

@[expose] public section

set_option maxRecDepth 16384

noncomputable section

open Idealize.ShloMosaic Idealize.ShloMosaic.TcCoe Idealize.SL.Sem

/-! # The parts of the packed operands, entry by entry -/

namespace Cert.KernelIdeal.Step

open Cert.KernelIdeal Cert.KernelIdeal.Gen Cert.KernelIdeal.Bands

/-- What the host pads with is zero. -/
theorem filler_apply (j : S_.Idx) : filler j = 0 := by
  unfold filler
  pointwise []
  show ((((0#32 : BitVec 32).toInt : ℝ)) : EReal) = 0
  simp

section Parts

variable (T : FVec Ideal S6x128 .f32) (W : FVec Ideal S512x128 .f32) (E EW : FVec Ideal S64x40 .f32)
    (EP : FVec Ideal S512x64 .f32) (P : FVec Ideal S2048x128 .f32) (b9 b7 g be : FVec Ideal S512 .f32) (eb : FVec Ideal S64 .f32)
    (x0 : Vec Ideal S64x2048 .i32)

/-- Token table: the rows past the given ones are zero. -/
theorem part_T (i : Fin 8) (k : Fin 128) :
    (mats x0 (packW T W E EW EP P) (packV b9 b7 g be eb)).T (ix2 i k) = if h : i.val < 6 then T (ix2 ⟨i.val, h⟩ k) else 0 := by
  have hi := i.isLt
  unfold mats part packW
  pointwise []
  rw [filler_apply]

/-- Projection of the token rows. -/
theorem part_W (h : Fin 512) (k : Fin 128) : (mats x0 (packW T W E EW EP P) (packV b9 b7 g be eb)).W (ix2 h k) = W (ix2 h k) := by
  have hi := h.isLt
  unfold mats part packW
  pointwise []

/-- Expression data: the columns past the given ones are zero. -/
theorem part_E (i : Fin 64) (k : Fin 128) :
    (mats x0 (packW T W E EW EP P) (packV b9 b7 g be eb)).E (ix2 i k) = if h : k.val < 40 then E (ix2 i ⟨k.val, h⟩) else 0 := by
  have hi := i.isLt
  unfold mats part packW
  pointwise []
  rw [dif_neg (by omega), dif_neg (by omega), dif_pos (by omega), filler_apply]
  by_cases hk : k.val < 40
  · rw [dif_pos ⟨by omega, hk⟩, dif_pos hk]
    simp only [show 520 + i.val - 8 - 512 = i.val by omega]
  · rw [dif_neg (fun hh => hk hh.2), dif_neg hk]

/-- First expression weights: the columns past the given ones are zero. -/
theorem part_EW (i : Fin 64) (k : Fin 128) :
    (mats x0 (packW T W E EW EP P) (packV b9 b7 g be eb)).EW (ix2 i k) = if h : k.val < 40 then EW (ix2 i ⟨k.val, h⟩) else 0 := by
  have hi := i.isLt
  unfold mats part packW
  pointwise []
  simp only [show ¬ 584 + i.val < 8 by omega, show ¬ 584 + i.val - 8 < 512 by omega, show ¬ 584 + i.val - 8 - 512 < 64 by omega,
    show 584 + i.val - 8 - 512 - 64 = i.val by omega, hi, true_and, filler_apply, ↓reduceDIte]

/-- Second expression weights. -/
theorem part_EP (i : Fin 512) (k : Fin 64) : (mats x0 (packW T W E EW EP P) (packV b9 b7 g be eb)).EP (ix2 i k) = EP (ix2 i k) := by
  have hi := i.isLt
  have hk := k.isLt
  unfold mats part packW
  pointwise []
  rw [dif_neg (by omega), dif_neg (by omega), dif_neg (by omega), dif_neg (by omega), dif_pos (by omega), dif_pos (by omega)]
  simp only [show 648 + i.val - 8 - 512 - 64 - 64 = i.val by omega]

/-- Position rows. -/
theorem part_P (i : Fin 2048) (k : Fin 128) : (mats x0 (packW T W E EW EP P) (packV b9 b7 g be eb)).P (ix2 i k) = P (ix2 i k) := by
  have hi := i.isLt
  unfold mats part packW
  pointwise []
  rw [dif_neg (by omega), dif_neg (by omega), dif_neg (by omega), dif_neg (by omega), dif_neg (by omega)]
  simp only [show 1160 + i.val - 8 - 512 - 64 - 64 - 512 = i.val by omega]

/-- Sum of the two projection biases. -/
theorem part_B0 (h : Fin 512) : (mats x0 (packW T W E EW EP P) (packV b9 b7 g be eb)).B0 (ix2 0 h) = b9 (ix1 h) + b7 (ix1 h) := by
  have hi := h.isLt
  unfold mats part packV
  pointwise []

/-- Scale. -/
theorem part_gam (h : Fin 512) : (mats x0 (packW T W E EW EP P) (packV b9 b7 g be eb)).gam (ix2 0 h) = g (ix1 h) := by
  have hi := h.isLt
  unfold mats part packV
  pointwise []

/-- Shift. -/
theorem part_bet (h : Fin 512) : (mats x0 (packW T W E EW EP P) (packV b9 b7 g be eb)).bet (ix2 0 h) = be (ix1 h) := by
  have hi := h.isLt
  unfold mats part packV
  pointwise []

/-- First expression bias. -/
theorem part_EB (k : Fin 64) : (mats x0 (packW T W E EW EP P) (packV b9 b7 g be eb)).EB (ix2 0 k) = eb (ix1 k) := by
  have hi := k.isLt
  unfold mats part packV
  pointwise []

end Parts

end Cert.KernelIdeal.Step
-- ==== Proof.KernelOut.lean ====
module

public import proofs.«01_k».proof.Proof.Packed
public import proofs.«01_k».proof.Proof.InitPays
public import proofs.«01_k».proof.Proof.Numbers

@[expose] public section

set_option maxRecDepth 16384

noncomputable section

open Idealize.ShloMosaic Idealize.ShloMosaic.TcCoe Idealize.SL.Sem

/-! # The kernel's result in real numbers -/

namespace Cert.KernelIdeal.Step

open Cert.KernelIdeal Cert.KernelIdeal.Gen Cert.KernelIdeal.Bands Cert.Layer

/-- The choice by a token of the table. -/
theorem pick_tok {α : Type} (t : Fin 6) (f : Fin 8 → α) :
    Mats.pick (BitVec.ofNat 32 t.val) f = f (t.castLE (by decide)) := by
  fin_cases t <;> simp [Mats.pick] <;> rfl

/-- The product of the two factors' rows, for a token of the table. -/
theorem resultAt_real (t : Fin 6) (m r x g pg rv : ℝ) (y : Fin 8 → ℝ) (be : EReal) :
    resultAt (BitVec.ofNat 32 t.val) m r x (fun j => ((y j : ℝ) : EReal)) g be pg rv
      = ((r * (y (t.castLE (by decide)) * g) + m * (0 - g) + r * x + pg * rv : ℝ) : EReal) + be := by
  have e : ((r * (y (t.castLE (by decide)) * g) + m * (0 - g) + r * x + pg * rv : ℝ) : EReal)
      = (r : EReal) * ((y (t.castLE (by decide)) : ℝ) * g) + m * (0 - (g : EReal)) + r * x + pg * rv := by
    push_cast
    rfl
  rw [e]
  unfold resultAt
  simp only [Fin.sum_univ_succ, Finset.univ_eq_empty, Finset.sum_empty]
  fin_cases t <;> simp [leftAt, rightAt, rightBase] <;> ac_rfl

section Out

variable {d : Data} {x0 : Vec Ideal S64x2048 .i32} {x1 : FVec Ideal S64x40 .f32} {x2 : FVec Ideal S6x128 .f32}
  {x3 : FVec Ideal S2048x128 .f32} {x4 : FVec Ideal S64x40 .f32} {x5 : FVec Ideal S64 .f32} {x6 : FVec Ideal S512x128 .f32}
  {x7 : FVec Ideal S512 .f32} {x8 : FVec Ideal S512x64 .f32} {x9 x10 : FVec Ideal S512 .f32}
  {x11 : FVec Ideal S512 .f32} {M : Mats Ideal}
  (f : Fits d x0 x1 x2 x3 x4 x5 x6 x7 x8 x9 x10) (e : M = mats x0 (packW x2 x6 x1 x4 x8 x3) (packV x9 x7 x10 x11 x5))

/-- The projected table, padded to eight rows with zeros. -/
def tp8 (d : Data) (i : Fin 8) (h : Fin 512) : ℝ := if hi : i.val < 6 then d.tp ⟨i.val, hi⟩ h else 0

theorem tp8_tok (d : Data) (t : Fin 6) (h : Fin 512) : tp8 d (t.castLE (by decide)) h = d.tp t h := by
  unfold tp8
  rw [dif_pos (show (t.castLE (by decide : 6 ≤ 8)).val < 6 from t.isLt)]
  rfl

include f e

theorem tok_real (b : Fin 64) (s : Fin 2048) : M.tok (ix2 b s) = BitVec.ofNat 32 (d.tok b s).val := by
  subst e
  exact f.tok b s

theorem tp_real (i : Fin 8) (h : Fin 512) : M.tp (ix2 i h) = ((tp8 d i h : ℝ) : EReal) := by
  subst e
  rw [Mats.tp_apply]
  unfold tp8
  by_cases hi : i.val < 6
  · rw [dif_pos hi]
    unfold Data.tp
    rw [← sum_mul_real]
    refine Finset.sum_congr rfl fun k _ => ?_
    rw [part_T, part_W, dif_pos hi, f.T, f.W]
  · rw [dif_neg hi, EReal.coe_zero]
    refine Finset.sum_eq_zero fun k _ => ?_
    rw [part_T, dif_neg hi]
    exact zero_mul _

theorem pp_real (s : Fin 2048) (h : Fin 512) : M.pp (ix2 s h) = ((d.pp s h : ℝ) : EReal) := by
  subst e
  rw [Mats.pp_apply]
  unfold Data.pp
  rw [← sum_mul_real]
  refine Finset.sum_congr rfl fun k _ => ?_
  rw [part_P, part_W, f.P, f.W]

/-- A row of the first expression layer: the padding adds nothing. -/
theorem ee_real (b k : Fin 64) :
    (∑ l : Fin 128, (M.E (ix2 b l) : EReal) * M.EW (ix2 k l)) + M.EB (ix2 0 k) = ((d.ee b k : ℝ) : EReal) := by
  subst e
  unfold Data.ee
  rw [EReal.coe_add, part_EB, f.EB, ← sum_mul_real]
  refine congrArg (· + _) ?_
  refine (Fin.sum_univ_add (M := EReal) (a := 40) (b := 88) _).trans ?_
  refine (congrArg (_ + ·) (Finset.sum_eq_zero fun l _ => ?_)).trans ((add_zero _).trans ?_)
  · rw [part_E, dif_neg (by simp)]
    exact zero_mul _
  refine Finset.sum_congr rfl fun l _ => ?_
  rw [part_E, part_EW, dif_pos (show (Fin.castAdd 88 l).val < 40 from l.isLt), dif_pos (show (Fin.castAdd 88 l).val < 40 from l.isLt)]
  exact congrArg₂ (· * ·) (f.E b l) (f.EW k l)

theorem eh_real (b : Fin 64) (h : Fin 512) : M.eh (ix2 b h) = ((d.eh b h : ℝ) : EReal) := by
  subst e
  rw [Mats.eh_apply]
  unfold Data.eh
  rw [EReal.coe_add, EReal.coe_add, part_B0, f.b9, f.b7, ← sum_mul_real]
  refine congrArg (· + _) (Finset.sum_congr rfl fun k _ => ?_)
  rw [ee_real f rfl, part_EP, f.EP]

theorem mu_real (b : Fin 64) (s : Fin 2048) : M.mu (ix2 b s) = ((d.mean b s : ℝ) : EReal) := by
  subst e
  rw [Mats.mu_apply]
  rw [tok_real f rfl, pick_tok]
  simp only [tp_real f rfl, eh_real f rfl, pp_real f rfl, tp8_tok, one_mul, sum_real, ofBits_512, ofBits_inv512]
  rw [Ideal.div_coe (by norm_num), Ideal.div_coe (by norm_num), ← d.mean_parts]
  push_cast
  rfl

theorem ss_real (b : Fin 64) (s : Fin 2048) :
    M.ss (ix2 b s) * Ideal.ofBits .f32 0x3B000000#32 - M.mu (ix2 b s) * M.mu (ix2 b s) = ((d.var b s : ℝ) : EReal) := by
  subst e
  rw [Mats.ss_apply, mu_real f rfl]
  rw [tok_real f rfl, pick_tok, pick_tok, pick_tok]
  simp only [tp_real f rfl, eh_real f rfl, pp_real f rfl, tp8_tok, one_mul, sum_mul_real, ofBits_two, ofBits_inv512]
  rw [← d.var_parts]
  push_cast
  rfl

theorem r_real (b : Fin 64) (s : Fin 2048) : M.r (ix2 b s) = (((Real.sqrt (d.var b s + eps))⁻¹ : ℝ) : EReal) := by
  subst e
  rw [Mats.r_apply, ss_real f rfl, ofBits_eps.1, ← EReal.coe_add, Ideal.rsqrt_coe,
    if_neg (not_lt.mpr (d.var_eps_pos b s).le), if_neg (d.var_eps_pos b s).ne']

/-- What the kernel leaves at an entry. -/
theorem out_real (b : Fin 64) (s : Fin 2048) (h : Fin 512) :
    resultAt (M.tok (ix2 b s)) (M.mr (ix2 b s)) (M.r (ix2 b s)) (M.ehg (ix2 b h)) (fun j => M.tp (ix2 j h))
        (M.gam (ix2 0 h)) (M.bet (ix2 0 h)) (M.ppg (ix2 s h)) (M.rt (ix2 s b))
      = ((d.out b s h : ℝ) : EReal) + x11 (ix1 h) := by
  subst e
  rw [tok_real f rfl, Mats.mr_apply, Mats.rt_apply, Mats.ehg_apply, Mats.ppg_apply, r_real f rfl, mu_real f rfl,
    eh_real f rfl, pp_real f rfl, part_gam, part_bet, f.g]
  simp only [tp_real f rfl, ← EReal.coe_mul]
  rw [resultAt_real, tp8_tok]
  refine congrArg (· + _) (congrArg _ ?_)
  unfold Data.out Data.x
  rw [div_eq_mul_inv]
  ring

end Out

end Cert.KernelIdeal.Step
-- ==== Proof.RefOut.lean ====
module

public import proofs.«01_k».proof.Proof.Gen.ReferenceIdeal.Read
public import proofs.«01_k».proof.Proof.Numbers
public import Idealize.ShloMosaic.Lib.Pointwise
public import Idealize.ShloMosaic.Lib.ReduceAll
public import Idealize.ShloMosaic.Lib.WordCmp

@[expose] public section

set_option maxRecDepth 16384

noncomputable section

open Idealize.ShloMosaic Idealize.ShloMosaic.TcCoe Idealize.SL.Sem

/-! # The reference's result in real numbers -/

namespace Cert.Layer.Reference

open Cert.ReferenceIdeal Cert.ReferenceIdeal.Gen Cert.ReferenceIdeal.Read Cert.Layer

/-- The row of the table a token takes: the start index, read as a signed number and kept inside the table. -/
theorem take_row (x : FVec Ideal S6x128 .f32) (idx : IVec S64x2048x1 32) (b : Fin 64) (s : Fin 2048) (k : Fin 128) :
    Host.gather gather_S6x128_S64x2048x1_S64x2048x128_2_0_n_n_0_2_1128 x idx (ix3 b s k)
      = x (ix2 ⟨min (idx (ix3 b s 0)).toInt.toNat 5, by omega⟩ k) := by
  unfold Host.gather
  refine congrArg x ?_
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S6x128_S64x2048x1_S64x2048x128_2_0_n_n_0_2_1128.startIndexMap from List.mem_singleton.mpr rfl)]
    refine congrArg (fun j => min (idx j).toInt.toNat 5) ?_
    funext c
    refine Fin.ext ?_
    match c with
    | ⟨0, _⟩ => rfl
    | ⟨1, _⟩ => rfl
    | ⟨2, _⟩ => rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show ¬ (1 : Fin 2) ∈ gather_S6x128_S64x2048x1_S64x2048x128_2_0_n_n_0_2_1128.startIndexMap by decide)]
    simp only [Nat.add_zero, Nat.zero_add]
    rfl

section Out

variable {d : Data} {x0 : Vec Ideal S64x2048 .i32} {x1 : FVec Ideal S64x40 .f32} {x2 : FVec Ideal S6x128 .f32}
  {x3 : FVec Ideal S2048x128 .f32} {x4 : FVec Ideal S64x40 .f32} {x5 : FVec Ideal S64 .f32} {x6 : FVec Ideal S512x128 .f32}
  {x7 : FVec Ideal S512 .f32} {x8 : FVec Ideal S512x64 .f32} {x9 x10 : FVec Ideal S512 .f32} (x11 : FVec Ideal S512 .f32)
  (f : Fits d x0 x1 x2 x3 x4 x5 x6 x7 x8 x9 x10)

include f

/-- The start index of a token of the table is the token. -/
theorem start_tok (b : Fin 64) (s : Fin 2048) : val_main_call0_v5 (F := Ideal) x0 (ix3 b s 0) = BitVec.ofNat 32 (d.tok b s).val := by
  pointwise [val_main_call0_v5, val_main_call0_v4, val_main_call0_v1, val_main_call0_v0, val_main_call0_c]
  rw [f.tok]
  generalize d.tok b s = t
  generalize val_main_call0_v3 (F := Ideal) x0 (ix2 b s) = z
  fin_cases t <;> rfl

/-- Every token is inside the table. -/
theorem mask_one (b : Fin 64) (s : Fin 2048) : val_main_call0_v12 (F := Ideal) x0 (ix2 b s) = 1#1 := by
  refine Host.reduce_andi_one _ _ _ _ _ rfl fun i => ?_
  obtain ⟨b, s, z, rfl⟩ : ∃ (b : Fin 64) (s : Fin 2048) (z : Fin 1), i = ix3 b s z := ⟨i 0, i 1, i 2, eq_ix3 i⟩
  obtain rfl : z = 0 := Subsingleton.elim _ _
  pointwise [val_main_call0_v11, val_main_call0_v7, val_main_call0_v10, val_main_call0_v6, val_main_call0_v9, val_main_call0_v8,
    val_main_call0_c_1, val_main_call0_c_2]
  rw [start_tok f]
  generalize d.tok b s = t
  fin_cases t <;> rfl

theorem take_real (b : Fin 64) (s : Fin 2048) (k : Fin 128) : val_main_v0 (F := Ideal) x0 x2 (ix3 b s k) = ((d.T (d.tok b s) k : ℝ) : EReal) := by
  pointwise [val_main_v0, val_main_call0_v14]
  rw [mask_one f]
  refine (take_row x2 _ b s k).trans ?_
  rw [← f.T]
  refine congrArg (fun t => x2 (ix2 t k)) (Fin.ext ?_)
  show min (val_main_call0_v5 (F := Ideal) x0 (ix3 b s 0)).toInt.toNat 5 = (d.tok b s).val
  rw [start_tok f]
  generalize d.tok b s = t
  fin_cases t <;> rfl

theorem v3_real (b : Fin 64) (s : Fin 2048) (k : Fin 128) :
    val_main_v3 (F := Ideal) x0 x2 x3 (ix3 b s k) = ((d.T (d.tok b s) k + d.P s k : ℝ) : EReal) := by
  pointwise [val_main_v3, val_main_v2, val_main_v1]
  rw [take_real f, f.P]
  rfl

theorem v7_real (b : Fin 64) (s : Fin 2048) (h : Fin 512) :
    val_main_v7 (F := Ideal) x0 x2 x3 x6 x7 (ix3 b s h) = ((d.tp (d.tok b s) h + d.pp s h + d.b7 h : ℝ) : EReal) := by
  pointwise [val_main_v7, val_main_v6, val_main_v5, val_main_v4]
  simp only [v3_real f, f.W, f.b7, sum_mul_real, ← EReal.coe_add]
  refine congrArg (fun r : ℝ => ((r + d.b7 h : ℝ) : EReal)) ?_
  unfold Data.tp Data.pp
  rw [← Finset.sum_add_distrib]
  exact Finset.sum_congr rfl fun k _ => add_mul _ _ _

theorem v12_real (b k : Fin 64) : val_main_v12 (F := Ideal) x1 x4 x5 (ix2 b k) = ((d.ee b k : ℝ) : EReal) := by
  pointwise [val_main_v12, val_main_v11, val_main_v10, val_main_v9, val_main_v8]
  simp only [f.E, f.EW, f.EB, sum_mul_real, ← EReal.coe_add]
  rfl

theorem v17_real (b : Fin 64) (h : Fin 512) :
    val_main_v17 (F := Ideal) x1 x4 x5 x8 x9 (ix2 b h) = (((∑ k, d.ee b k * d.EP h k) + d.b9 h : ℝ) : EReal) := by
  pointwise [val_main_v17, val_main_v16, val_main_v15, val_main_v14, val_main_v13]
  simp only [v12_real f, f.EP, f.b9, sum_mul_real, ← EReal.coe_add]

theorem v20_real (b : Fin 64) (s : Fin 2048) (h : Fin 512) :
    val_main_v20 (F := Ideal) x0 x1 x2 x3 x4 x5 x6 x7 x8 x9 (ix3 b s h) = ((d.x b s h : ℝ) : EReal) := by
  pointwise [val_main_v20, val_main_v19, val_main_v18]
  rw [v7_real f, v17_real f, ← EReal.coe_add]
  refine congrArg _ ?_
  unfold Data.x Data.eh
  ring

theorem v24_real (b : Fin 64) (s : Fin 2048) :
    val_main_v24 (F := Ideal) x0 x1 x2 x3 x4 x5 x6 x7 x8 x9 (ix3 b s 0) = ((d.mean b s : ℝ) : EReal) := by
  pointwise [val_main_v24, val_main_v23, val_main_v22, val_main_v21, val_main_cst, val_main_cst_0]
  simp only [v20_real f, sum_real]
  rw [ofBits_512, Ideal.div_coe (by norm_num), ← EReal.coe_mul]
  refine congrArg _ ?_
  unfold Data.mean
  ring

theorem mean1_real (b : Fin 64) (s : Fin 2048) :
    val_main_call1_v3 (F := Ideal) x0 x1 x2 x3 x4 x5 x6 x7 x8 x9 (ix3 b s 0) = ((d.mean b s : ℝ) : EReal) := by
  pointwise [val_main_call1_v3, val_main_call1_v2, val_main_call1_v1, val_main_call1_v0, val_main_call1_cst, val_main_call1_cst_0]
  simp only [v20_real f, sum_real]
  rw [ofBits_512, Ideal.div_coe (by norm_num), ← EReal.coe_mul]
  refine congrArg _ ?_
  unfold Data.mean
  ring

theorem v6_real (b : Fin 64) (s : Fin 2048) (h : Fin 512) :
    val_main_call1_v6 (F := Ideal) x0 x1 x2 x3 x4 x5 x6 x7 x8 x9 (ix3 b s h)
      = (((d.x b s h - d.mean b s) * (d.x b s h - d.mean b s) : ℝ) : EReal) := by
  pointwise [val_main_call1_v6, val_main_call1_v5, val_main_call1_v4]
  rw [v20_real f, mean1_real f]
  push_cast
  rfl

theorem v25_real (b : Fin 64) (s : Fin 2048) :
    val_main_v25 (F := Ideal) x0 x1 x2 x3 x4 x5 x6 x7 x8 x9 (ix3 b s 0) = ((d.var b s : ℝ) : EReal) := by
  pointwise [val_main_v25, val_main_call1_v13, val_main_call1_v12, val_main_call1_v11, val_main_call1_v10, val_main_call1_v9,
    val_main_call1_v8, val_main_call1_v7]
  have n0 : val_main_call1_cst_3 (F := Ideal) ix0 = 0 := ofBits_zero
  have n1 : val_main_call1_cst_1 (F := Ideal) ix0 = ((512 : ℝ) : EReal) := ofBits_512
  have n2 : val_main_call1_cst_2 (F := Ideal) (Shape.Idx.first h_S_) = 0 := ofBits_zero
  have n3 : (FloatOps.sitofp .f32 (val_main_c (F := Ideal) ix0) : Ideal .f32) = ((0 : ℝ) : EReal) := by
    show ((((0#32 : BitVec 32).toInt : ℝ)) : EReal) = _
    simp
  rw [n0, n1, n2, n3]
  simp only [v6_real f, sum_real]
  rw [← EReal.coe_sub, sub_zero, if_pos (by norm_num), Ideal.div_coe (by norm_num), zero_add, ← EReal.coe_mul]
  refine congrArg _ ?_
  unfold Data.var
  ring

/-- What the reference leaves at an entry. -/
theorem out_real (b : Fin 64) (s : Fin 2048) (h : Fin 512) :
    val_main_v38 (F := Ideal) x0 x1 x2 x3 x4 x5 x6 x7 x8 x9 x10 x11 (ix3 b s h) = ((d.out b s h : ℝ) : EReal) + x11 (ix1 h) := by
  pointwise [val_main_v38, val_main_v37, val_main_v36, val_main_v35, val_main_v34, val_main_v33, val_main_v32, val_main_v31,
    val_main_v30, val_main_v29, val_main_v28, val_main_v27, val_main_v26, val_main_cst_1]
  rw [v20_real f, v24_real f, v25_real f, f.g, ofBits_eps.1, ← EReal.coe_add, Ideal.sqrt_coe,
    if_neg (not_lt.mpr (d.var_eps_pos b s).le), Ideal.div_coe (Real.sqrt_pos.mpr (d.var_eps_pos b s)).ne',
    ← EReal.coe_sub, ← EReal.coe_mul, ← EReal.coe_mul]
  refine congrArg (· + _) (congrArg _ ?_)
  unfold Data.out
  ring

end Out

end Cert.Layer.Reference
-- ==== Proof.Tie.lean ====
module

public import proofs.«01_k».proof.Proof.KernelOut
public import proofs.«01_k».proof.Proof.RefOut

@[expose] public section

set_option maxRecDepth 16384

noncomputable section

open Idealize.ShloMosaic Idealize.ShloMosaic.TcCoe Idealize.SL.Sem

/-! # The two results are one function of the operands -/

namespace Cert.KernelIdeal.Step

open Cert.KernelIdeal Cert.KernelIdeal.Gen Cert.Layer

/-- Where the operands fit, the kernel's result is the reference's term of the kernel's operands. -/
theorem result_eq (m : (ℓ : Loc nD τ sig) → Buf (Elt Ideal) ℓ) (c : Dev nD) (d : Data)
    (f : Fits d (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10))) :
    Cert.ReferenceIdeal.Read.val_main_v38 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) = Value.G3 m c := by
  funext i
  obtain ⟨b, s, h, rfl⟩ : ∃ (b : Fin 64) (s : Fin 2048) (h : Fin 512), i = ix3 b s h := ⟨i 0, i 1, i 2, (ix3_eta i).symm⟩
  refine (Reference.out_real _ f b s h).trans ?_
  refine ((result_apply m c b s h).trans (out_real f ?_ b s h)).symm
  unfold held
  rw [V_weights, V_vectors, V_main_arg0]

end Cert.KernelIdeal.Step
-- ==== Proof.lean ====
module

public import proofs.«01_k».proof.Proof.RefRead
public import proofs.«01_k».proof.Proof.Pre
public import proofs.«01_k».proof.Proof.Tie
public import proofs.«01_k».proof.Defs
public import proofs.«01_k».proof.Proof.Gen.Kernel.Frame
public import proofs.«01_k».proof.Proof.Gen.KernelIdeal.Value
public import proofs.«01_k».proof.Proof.Gen.Pre_tokens_in_table_and_finite
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- Under the precondition the idealized kernel and the idealized reference leave the same result. -/
theorem algebraic : algebraic_KernelIdeal_ReferenceIdeal_pre_tokens_in_table_and_finite
    (hPre_tokens_in_table_and_finite := Cert.Pre_tokens_in_table_and_finite.Gen.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨d, f⟩ := Cert.Layer.Given.fits (congrFun (hpre c) ix0)
  obtain ⟨a0, a1, a2, a3, a4, a5, a6, a7, a8, a9, a10, a11⟩ := hagree c
  rw [(h c).1]
  refine (Cert.ReferenceIdeal.Read.val_main_v38_eq m' c).trans ?_
  rw [a0, a1, a2, a3, a4, a5, a6, a7, a8, a9, a10, a11]
  exact Cert.KernelIdeal.Step.result_eq m c d f

/-- The certificate: the programs' facts, the frames, and the two comparisons. -/
theorem claim : Cert.Claim :=
  ⟨Cert.Kernel.Gen.facts, Cert.KernelIdeal.Gen.facts, Cert.ReferenceIdeal.Gen.facts, Cert.Pre_tokens_in_table_and_finite.Gen.facts,
    fun m ρ _ => Cert.Kernel.Gen.frame m ρ, fun m ρ _ => Cert.KernelIdeal.Gen.frame m ρ, fun m ρ _ => Cert.KernelIdeal.Gen.frame m ρ,
    fun m ρ _ => (θ_run Cert.ReferenceIdeal.defs _ _).mono (fun r h => ⟨fun c => (h c).2, sem_eq_zero_of_no_sems (by decide) r.2⟩)
      (Cert.ReferenceIdeal.Value.run (F := Ideal) m ρ),
    fun m ρ _ => (θ_run Cert.ReferenceIdeal.defs _ _).mono (fun r h => ⟨fun c => (h c).2, sem_eq_zero_of_no_sems (by decide) r.2⟩)
      (Cert.ReferenceIdeal.Value.run (F := Ideal) m ρ),
    (trivial : preserves_Kernel_KernelIdeal), algebraic⟩

end Cert.Proof

end
